-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = Layout.block ⟨3, ![2, 128, 512]⟩ ⟨3, ![16, 128, 512]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 256]⟩ ⟨2, ![512, 2048]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![256, 512]⟩ ⟨2, ![2048, 512]⟩ 0 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = Layout.block ⟨3, ![2, 128, 512]⟩ ⟨3, ![16, 128, 512]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v34) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S2x128x512 : Shape := ⟨3, ![2, 128, 512]⟩
abbrev S512x256 : Shape := ⟨2, ![512, 256]⟩
abbrev S16x128x32x64 : Shape := ⟨4, ![16, 128, 32, 64]⟩
abbrev S256x512 : Shape := ⟨2, ![256, 512]⟩
abbrev S_ : Shape := ⟨0, ![]⟩

class Facts : Prop where
  bcast_S_S2x128x512 : S_.BroadcastsInDim S2x128x512 (![] : Fin 0 → Fin S2x128x512.rank)
  reducesTo_S2x128x512_S_d0_1_2 : S2x128x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S16x128x32x64 : S_.BroadcastsInDim S16x128x32x64 (![] : Fin 0 → Fin S16x128x32x64.rank)
  reducesTo_S16x128x32x64_S_d0_1_2_3 : S16x128x32x64.ReducesTo [0, 1, 2, 3] S_

variable [Facts]

def fn {F : FTy → Type} [FloatOps F] (main_arg0 : FVec F S2x128x512 .f32) (main_arg1 : FVec F S512x256 .f32) (main_arg2 : FVec F S16x128x32x64 .f32) (main_arg3 : FVec F S16x128x32x64 .f32) (main_arg4 : FVec F S256x512 .f32) : IVec S_ 1 :=
  let main_v0 : FVec F S2x128x512 .f32 := Host.absf main_arg0
  let main_cst : FVec F S_ .f32 := constant S_ .f32 0x7F800000#32
  let main_v1 : FVec F S2x128x512 .f32 := broadcastInDim S2x128x512 ![] bcast_S_S2x128x512 main_cst
  let main_v2 : IVec S2x128x512 1 := cmpf .olt main_v0 main_v1
  let main_c : IVec S_ 1 := constantI S_ 1 1#1
  let main_v3 : IVec S_ 1 := (fun x v => Host.reduce IntOp.andi x v reducesTo_S2x128x512_S_d0_1_2 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S16x128x32x64 .f32 := Host.absf main_arg2
  let main_cst_2 : FVec F S_ .f32 := constant S_ .f32 0x7F800000#32
  let main_v10 : FVec F S16x128x32x64 .f32 := broadcastInDim S16x128x32x64 ![] bcast_S_S16x128x32x64 main_cst_2
  let main_v11 : IVec S16x128x32x64 1 := cmpf .olt main_v9 main_v10
  let main_c_3 : IVec S_ 1 := constantI S_ 1 1#1
  let main_v12 : IVec S_ 1 := (fun x v => Host.reduce IntOp.andi x v reducesTo_S16x128x32x64_S_d0_1_2_3 h_S_) main_v11 main_c_3
  let main_v13 : IVec S_ 1 := andi main_v8 main_v12
  main_v13
-- ==== Pre_finite_scores_ReferenceIdeal.lean ====
abbrev S16x128x512 : Shape := ⟨3, ![16, 128, 512]⟩
abbrev S512x2048 : Shape := ⟨2, ![512, 2048]⟩
abbrev S16x128x32x64 : Shape := ⟨4, ![16, 128, 32, 64]⟩
abbrev S2048x512 : Shape := ⟨2, ![2048, 512]⟩
abbrev S_ : Shape := ⟨0, ![]⟩

class Facts : Prop where
  bcast_S_S16x128x512 : S_.BroadcastsInDim S16x128x512 (![] : Fin 0 → Fin S16x128x512.rank)
  reducesTo_S16x128x512_S_d0_1_2 : S16x128x512.ReducesTo [0, 1, 2] S_
  h_S_ : 0 < S_.numel
  bcast_S_S512x2048 : S_.BroadcastsInDim S512x2048 (![] : Fin 0 → Fin S512x2048.rank)
  reducesTo_S512x2048_S_d0_1 : S512x2048.ReducesTo [0, 1] S_
  bcast_S_S16x128x32x64 : S_.BroadcastsInDim S16x128x32x64 (![] : Fin 0 → Fin S16x128x32x64.rank)
  reducesTo_S16x128x32x64_S_d0_1_2_3 : S16x128x32x64.ReducesTo [0, 1, 2, 3] S_

variable [Facts]

def fn {F : FTy → Type} [FloatOps F] (main_arg0 : FVec F S16x128x512 .f32) (main_arg1 : FVec F S512x2048 .f32) (main_arg2 : FVec F S16x128x32x64 .f32) (main_arg3 : FVec F S16x128x32x64 .f32) (main_arg4 : FVec F S2048x512 .f32) : IVec S_ 1 :=
  let main_v0 : FVec F S16x128x512 .f32 := Host.absf main_arg0
  let main_cst : FVec F S_ .f32 := constant S_ .f32 0x7F800000#32
  let main_v1 : FVec F S16x128x512 .f32 := broadcastInDim S16x128x512 ![] bcast_S_S16x128x512 main_cst
  let main_v2 : IVec S16x128x512 1 := cmpf .olt main_v0 main_v1
  let main_c : IVec S_ 1 := constantI S_ 1 1#1
  let main_v3 : IVec S_ 1 := (fun x v => Host.reduce IntOp.andi x v reducesTo_S16x128x512_S_d0_1_2 h_S_) main_v2 main_c
  let main_v4 : FVec F S512x2048 .f32 := Host.absf main_arg1
  let main_cst_0 : FVec F S_ .f32 := constant S_ .f32 0x7F800000#32
  let main_v5 : FVec F S512x2048 .f32 := broadcastInDim S512x2048 ![] bcast_S_S512x2048 main_cst_0
  let main_v6 : IVec S512x2048 1 := cmpf .olt main_v4 main_v5
  let main_c_1 : IVec S_ 1 := constantI S_ 1 1#1
  let main_v7 : IVec S_ 1 := (fun x v => Host.reduce IntOp.andi x v reducesTo_S512x2048_S_d0_1 h_S_) main_v6 main_c_1
  let main_v8 : IVec S_ 1 := andi main_v3 main_v7
  let main_v9 : FVec F S16x128x32x64 .f32 := Host.absf main_arg2
  let main_cst_2 : FVec F S_ .f32 := constant S_ .f32 0x7F800000#32
  let main_v10 : FVec F S16x128x32x64 .f32 := broadcastInDim S16x128x32x64 ![] bcast_S_S16x128x32x64 main_cst_2
  let main_v11 : IVec S16x128x32x64 1 := cmpf .olt main_v9 main_v10
  let main_c_3 : IVec S_ 1 := constantI S_ 1 1#1
  let main_v12 : IVec S_ 1 := (fun x v => Host.reduce IntOp.andi x v reducesTo_S16x128x32x64_S_d0_1_2_3 h_S_) main_v11 main_c_3
  let main_v13 : IVec S_ 1 := andi main_v8 main_v12
  main_v13
-- ==== Kernel.lean ====
abbrev S2x128x512 : Shape := ⟨3, ![2, 128, 512]⟩
abbrev S512x256 : Shape := ⟨2, ![512, 256]⟩
abbrev S16x128x32x64 : Shape := ⟨4, ![16, 128, 32, 64]⟩
abbrev S256x512 : Shape := ⟨2, ![256, 512]⟩
abbrev S8 : Shape := ⟨1, ![8]⟩
abbrev S_ : Shape := ⟨0, ![]⟩
abbrev S1x512x256 : Shape := ⟨3, ![1, 512, 256]⟩
abbrev S2x512x256 : Shape := ⟨3, ![2, 512, 256]⟩
abbrev S2x128x32x64 : Shape := ⟨4, ![2, 128, 32, 64]⟩
abbrev S2x128x8x256 : Shape := ⟨4, ![2, 128, 8, 256]⟩
abbrev S8x1 : Shape := ⟨2, ![8, 1]⟩
abbrev S1 : Shape := ⟨1, ![1]⟩
abbrev S1x1 : Shape := ⟨2, ![1, 1]⟩
abbrev S2x128x2048 : Shape := ⟨3, ![2, 128, 2048]⟩
abbrev S7x2x512x256 : Shape := ⟨4, ![7, 2, 512, 256]⟩
abbrev S10 : Shape := ⟨1, ![10]⟩
abbrev S1x1x256x256 : Shape := ⟨4, ![1, 1, 256, 256]⟩
abbrev S256x256 : Shape := ⟨2, ![256, 256]⟩
abbrev S1x256x256 : Shape := ⟨3, ![1, 256, 256]⟩
abbrev S128x64 : Shape := ⟨2, ![128, 64]⟩
abbrev S1x128x64 : Shape := ⟨3, ![1, 128, 64]⟩
abbrev S128x128 : Shape := ⟨2, ![128, 128]⟩
abbrev S128x512 : Shape := ⟨2, ![128, 512]⟩
abbrev S128x4x128 : Shape := ⟨3, ![128, 4, 128]⟩
abbrev S128x4 : Shape := ⟨2, ![128, 4]⟩
abbrev S128x1 : Shape := ⟨2, ![128, 1]⟩
abbrev S128x256 : Shape := ⟨2, ![128, 256]⟩
abbrev S1x1x512x256 : Shape := ⟨4, ![1, 1, 512, 256]⟩

abbrev nBuf : Space → Nat
  | .hbm => 94
  | .vmem => 6
  | .smem => 0
  | _ => 0

abbrev bufTy : (tb : Table) → Fin (tcTables nBuf tb) → BufTy
  | .hbm, ⟨0, _⟩ => ⟨S2x128x512, .f32⟩
  | .hbm, ⟨1, _⟩ => ⟨S512x256, .f32⟩
  | .hbm, ⟨2, _⟩ => ⟨S16x128x32x64, .f32⟩
  | .hbm, ⟨3, _⟩ => ⟨S16x128x32x64, .f32⟩
  | .hbm, ⟨4, _⟩ => ⟨S256x512, .f32⟩
  | .hbm, ⟨5, _⟩ => ⟨S8, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S512x256, .f32⟩
  | .hbm, ⟨13, _⟩ => ⟨S1x512x256, .f32⟩
  | .hbm, ⟨14, _⟩ => ⟨S1x512x256, .f32⟩
  | .hbm, ⟨15, _⟩ => ⟨S2x512x256, .f32⟩
  | .hbm, ⟨16, _⟩ => ⟨S2x512x256, .bf16⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i1⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S2x128x32x64, .f32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i1⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S2x128x32x64, .f32⟩
  | .hbm, ⟨39, _⟩ => ⟨S8, .i32⟩
  | .hbm, ⟨40, _⟩ => ⟨S8, .i32⟩
  | .hbm, ⟨41, _⟩ => ⟨S2x128x32x64, .bf16⟩
  | .hbm, ⟨42, _⟩ => ⟨S2x128x8x256, .bf16⟩
  | .hbm, ⟨43, _⟩ => ⟨S2x128x32x64, .bf16⟩
  | .hbm, ⟨44, _⟩ => ⟨S2x128x8x256, .bf16⟩
  | .hbm, ⟨45, _⟩ => ⟨S_, .i32⟩
  | .hbm, ⟨46, _⟩ => ⟨S8, .i32⟩
  | .hbm, ⟨47, _⟩ => ⟨S8, .i1⟩
  | .hbm, ⟨48, _⟩ => ⟨S_, .i32⟩
  | .hbm, ⟨49, _⟩ => ⟨S8, .i32⟩
  | .hbm, ⟨50, _⟩ => ⟨S8, .i32⟩
  | .hbm, ⟨51, _⟩ => ⟨S8, .i32⟩
  | .hbm, ⟨52, _⟩ => ⟨S8x1, .i32⟩
  | .hbm, ⟨53, _⟩ => ⟨S1, .i32⟩
  | .hbm, ⟨54, _⟩ => ⟨S_, .i32⟩
  | .hbm, ⟨55, _⟩ => ⟨S8x1, .i32⟩
  | .hbm, ⟨56, _⟩ => ⟨S8x1, .i1⟩
  | .hbm, ⟨57, _⟩ => ⟨S1x1, .i32⟩
  | .hbm, ⟨58, _⟩ => ⟨S8x1, .i32⟩
  | .hbm, ⟨59, _⟩ => ⟨S8x1, .i1⟩
  | .hbm, ⟨60, _⟩ => ⟨S8x1, .i1⟩
  | .hbm, ⟨61, _⟩ => ⟨S_, .i1⟩
  | .hbm, ⟨62, _⟩ => ⟨S8, .i1⟩
  | .hbm, ⟨63, _⟩ => ⟨S2x128x8x256, .bf16⟩
  | .hbm, ⟨64, _⟩ => ⟨S2x128x8x256, .i1⟩
  | .hbm, ⟨65, _⟩ => ⟨S_, .bf16⟩
  | .hbm, ⟨66, _⟩ => ⟨S2x128x8x256, .bf16⟩
  | .hbm, ⟨67, _⟩ => ⟨S2x128x8x256, .bf16⟩
  | .hbm, ⟨68, _⟩ => ⟨S2x128x2048, .bf16⟩
  | .hbm, ⟨69, _⟩ => ⟨S_, .i32⟩
  | .hbm, ⟨70, _⟩ => ⟨S8, .i32⟩
  | .hbm, ⟨71, _⟩ => ⟨S8, .i1⟩
  | .hbm, ⟨72, _⟩ => ⟨S_, .i32⟩
  | .hbm, ⟨73, _⟩ => ⟨S8, .i32⟩
  | .hbm, ⟨74, _⟩ => ⟨S8, .i32⟩
  | .hbm, ⟨75, _⟩ => ⟨S8, .i32⟩
  | .hbm, ⟨76, _⟩ => ⟨S8x1, .i32⟩
  | .hbm, ⟨77, _⟩ => ⟨S1, .i32⟩
  | .hbm, ⟨78, _⟩ => ⟨S_, .i32⟩
  | .hbm, ⟨79, _⟩ => ⟨S8x1, .i32⟩
  | .hbm, ⟨80, _⟩ => ⟨S8x1, .i1⟩
  | .hbm, ⟨81, _⟩ => ⟨S1x1, .i32⟩
  | .hbm, ⟨82, _⟩ => ⟨S8x1, .i32⟩
  | .hbm, ⟨83, _⟩ => ⟨S8x1, .i1⟩
  | .hbm, ⟨84, _⟩ => ⟨S8x1, .i1⟩
  | .hbm, ⟨85, _⟩ => ⟨S_, .i1⟩
  | .hbm, ⟨86, _⟩ => ⟨S8, .i1⟩
  | .hbm, ⟨87, _⟩ => ⟨S2x128x8x256, .bf16⟩
  | .hbm, ⟨88, _⟩ => ⟨S2x128x8x256, .i1⟩
  | .hbm, ⟨89, _⟩ => ⟨S_, .bf16⟩
  | .hbm, ⟨90, _⟩ => ⟨S2x128x8x256, .bf16⟩
  | .hbm, ⟨91, _⟩ => ⟨S2x128x8x256, .bf16⟩
  | .hbm, ⟨92, _⟩ => ⟨S2x128x2048, .bf16⟩
  | .hbm, ⟨93, _⟩ => ⟨S2x128x512, .f32⟩
  | .local _ .vmem, ⟨0, _⟩ => ⟨S2x128x512, .f32⟩
  | .local _ .vmem, ⟨1, _⟩ => ⟨S2x512x256, .bf16⟩
  | .local _ .vmem, ⟨2, _⟩ => ⟨S2x128x2048, .bf16⟩
  | .local _ .vmem, ⟨3, _⟩ => ⟨S2x128x2048, .bf16⟩
  | .local _ .vmem, ⟨4, _⟩ => ⟨S2x128x512, .f32⟩
  | .local _ .vmem, ⟨5, _⟩ => ⟨S7x2x512x256, .bf16⟩
  | _, _ => ⟨S2x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 61 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | _ => false

abbrev sig : RefSig :=
  (ofTc nBuf bufTy 1 61 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_c_1 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_2 : Ref sig .tc := ⟨.hbm, 17, rfl⟩
abbrev main_v10 : Ref sig .tc := ⟨.hbm, 18, rfl⟩
abbrev main_c_3 : Ref sig .tc := ⟨.hbm, 19, rfl⟩
abbrev main_v11 : Ref sig .tc := ⟨.hbm, 20, rfl⟩
abbrev main_c_4 : Ref sig .tc := ⟨.hbm, 21, rfl⟩
abbrev main_v12 : Ref sig .tc := ⟨.hbm, 22, rfl⟩
abbrev main_v13 : Ref sig .tc := ⟨.hbm, 23, rfl⟩
abbrev main_c_5 : Ref sig .tc := ⟨.hbm, 24, rfl⟩
abbrev main_c_6 : Ref sig .tc := ⟨.hbm, 25, rfl⟩
abbrev main_c_7 : Ref sig .tc := ⟨.hbm, 26, rfl⟩
abbrev main_v14 : Ref sig .tc := ⟨.hbm, 27, rfl⟩
abbrev main_c_8 : Ref sig .tc := ⟨.hbm, 28, rfl⟩
abbrev main_v15 : Ref sig .tc := ⟨.hbm, 29, rfl⟩
abbrev main_c_9 : Ref sig .tc := ⟨.hbm, 30, rfl⟩
abbrev main_v16 : Ref sig .tc := ⟨.hbm, 31, rfl⟩
abbrev main_c_10 : Ref sig .tc := ⟨.hbm, 32, rfl⟩
abbrev main_v17 : Ref sig .tc := ⟨.hbm, 33, rfl⟩
abbrev main_v18 : Ref sig .tc := ⟨.hbm, 34, rfl⟩
abbrev main_c_11 : Ref sig .tc := ⟨.hbm, 35, rfl⟩
abbrev main_c_12 : Ref sig .tc := ⟨.hbm, 36, rfl⟩
abbrev main_c_13 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_call0_c : Ref sig .tc := ⟨.hbm, 45, rfl⟩
abbrev main_call0_v0 : Ref sig .tc := ⟨.hbm, 46, rfl⟩
abbrev main_call0_v1 : Ref sig .tc := ⟨.hbm, 47, rfl⟩
abbrev main_call0_c_0 : Ref sig .tc := ⟨.hbm, 48, rfl⟩
abbrev main_call0_v2 : Ref sig .tc := ⟨.hbm, 49, rfl⟩
abbrev main_call0_v3 : Ref sig .tc := ⟨.hbm, 50, rfl⟩
abbrev main_call0_v4 : Ref sig .tc := ⟨.hbm, 51, rfl⟩
abbrev main_call0_v5 : Ref sig .tc := ⟨.hbm, 52, rfl⟩
abbrev main_call0_c_1 : Ref sig .tc := ⟨.hbm, 53, rfl⟩
abbrev main_call0_c_2 : Ref sig .tc := ⟨.hbm, 54, rfl⟩
abbrev main_call0_v6 : Ref sig .tc := ⟨.hbm, 55, rfl⟩
abbrev main_call0_v7 : Ref sig .tc := ⟨.hbm, 56, rfl⟩
abbrev main_call0_v8 : Ref sig .tc := ⟨.hbm, 57, rfl⟩
abbrev main_call0_v9 : Ref sig .tc := ⟨.hbm, 58, rfl⟩
abbrev main_call0_v10 : Ref sig .tc := ⟨.hbm, 59, rfl⟩
abbrev main_call0_v11 : Ref sig .tc := ⟨.hbm, 60, rfl⟩
abbrev main_call0_c_3 : Ref sig .tc := ⟨.hbm, 61, rfl⟩
abbrev main_call0_v12 : Ref sig .tc := ⟨.hbm, 62, rfl⟩
abbrev main_call0_v13 : Ref sig .tc := ⟨.hbm, 63, rfl⟩
abbrev main_call0_v14 : Ref sig .tc := ⟨.hbm, 64, rfl⟩
abbrev main_call0_cst : Ref sig .tc := ⟨.hbm, 65, rfl⟩
abbrev main_call0_v15 : Ref sig .tc := ⟨.hbm, 66, rfl⟩
abbrev main_v26 : Ref sig .tc := ⟨.hbm, 67, rfl⟩
abbrev main_v27 : Ref sig .tc := ⟨.hbm, 68, rfl⟩
abbrev main_call1_c : Ref sig .tc := ⟨.hbm, 69, rfl⟩
abbrev main_call1_v0 : Ref sig .tc := ⟨.hbm, 70, rfl⟩
abbrev main_call1_v1 : Ref sig .tc := ⟨.hbm, 71, rfl⟩
abbrev main_call1_c_0 : Ref sig .tc := ⟨.hbm, 72, rfl⟩
abbrev main_call1_v2 : Ref sig .tc := ⟨.hbm, 73, rfl⟩
abbrev main_call1_v3 : Ref sig .tc := ⟨.hbm, 74, rfl⟩
abbrev main_call1_v4 : Ref sig .tc := ⟨.hbm, 75, rfl⟩
abbrev main_call1_v5 : Ref sig .tc := ⟨.hbm, 76, rfl⟩
abbrev main_call1_c_1 : Ref sig .tc := ⟨.hbm, 77, rfl⟩
abbrev main_call1_c_2 : Ref sig .tc := ⟨.hbm, 78, rfl⟩
abbrev main_call1_v6 : Ref sig .tc := ⟨.hbm, 79, rfl⟩
abbrev main_call1_v7 : Ref sig .tc := ⟨.hbm, 80, rfl⟩
abbrev main_call1_v8 : Ref sig .tc := ⟨.hbm, 81, rfl⟩
abbrev main_call1_v9 : Ref sig .tc := ⟨.hbm, 82, rfl⟩
abbrev main_call1_v10 : Ref sig .tc := ⟨.hbm, 83, rfl⟩
abbrev main_call1_v11 : Ref sig .tc := ⟨.hbm, 84, rfl⟩
abbrev main_call1_c_3 : Ref sig .tc := ⟨.hbm, 85, rfl⟩
abbrev main_call1_v12 : Ref sig .tc := ⟨.hbm, 86, rfl⟩
abbrev main_call1_v13 : Ref sig .tc := ⟨.hbm, 87, rfl⟩
abbrev main_call1_v14 : Ref sig .tc := ⟨.hbm, 88, rfl⟩
abbrev main_call1_cst : Ref sig .tc := ⟨.hbm, 89, rfl⟩
abbrev main_call1_v15 : Ref sig .tc := ⟨.hbm, 90, rfl⟩
abbrev main_v28 : Ref sig .tc := ⟨.hbm, 91, rfl⟩
abbrev main_v29 : Ref sig .tc := ⟨.hbm, 92, rfl⟩
abbrev main_v30 : Ref sig .tc := ⟨.hbm, 93, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_2 : BitVec 32 := 1#32
  let v7 : BitVec 32 := Scalar.muli v3 c1_i32_2
  let v8 : BitVec 32 := Scalar.addi c0_i32 v7
  v8.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_4 : BitVec 32 := 1#32
  let v9 : BitVec 32 := Scalar.muli v4 c1_i32_4
  let v10 : BitVec 32 := Scalar.addi c0_i32_5 v9
  v10.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_7 : BitVec 32 := 1#32
  let v11 : BitVec 32 := Scalar.muli v5 c1_i32_7
  let v12 : BitVec 32 := Scalar.addi c0_i32_8 v11
  v12.toNat
def k0_dev4 (d0 : Dev nD) : Nat :=
  let c0_i32_18 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_17 : BitVec 32 := 1#32
  let v17 : BitVec 32 := Scalar.muli v3 c1_i32_17
  let v18 : BitVec 32 := Scalar.addi c0_i32_18 v17
  v18.toNat
def k0_dev5 (d0 : Dev nD) : Nat :=
  let c0_i32_29 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_28 : BitVec 32 := 1#32
  let v27 : BitVec 32 := Scalar.muli v4 c1_i32_28
  let v28 : BitVec 32 := Scalar.addi c0_i32_29 v27
  v28.toNat
def k0_dev6 (d0 : Dev nD) : Nat :=
  let c0_i32_39 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_38 : BitVec 32 := 1#32
  let v37 : BitVec 32 := Scalar.muli v5 c1_i32_38
  let v38 : BitVec 32 := Scalar.addi c0_i32_39 v37
  v38.toNat
def k0_dev7 (d0 : Dev nD) : Nat :=
  let c0_i32_50 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_49 : BitVec 32 := 1#32
  let v47 : BitVec 32 := Scalar.muli v3 c1_i32_49
  let v48 : BitVec 32 := Scalar.addi c0_i32_50 v47
  v48.toNat
def k0_dev8 (d0 : Dev nD) : Nat :=
  let c0_i32_60 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_59 : BitVec 32 := 1#32
  let v57 : BitVec 32 := Scalar.muli v4 c1_i32_59
  let v58 : BitVec 32 := Scalar.addi c0_i32_60 v57
  v58.toNat
def k0_dev9 (d0 : Dev nD) : Nat :=
  let c0_i32_71 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_70 : BitVec 32 := 1#32
  let v67 : BitVec 32 := Scalar.muli v5 c1_i32_70
  let v68 : BitVec 32 := Scalar.addi c0_i32_71 v67
  v68.toNat
def k0_dev10 (d0 : Dev nD) : Nat :=
  let c0_i32_82 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_81 : BitVec 32 := 1#32
  let v77 : BitVec 32 := Scalar.muli v3 c1_i32_81
  let v78 : BitVec 32 := Scalar.addi c0_i32_82 v77
  v78.toNat
def k0_dev11 (d0 : Dev nD) : Nat :=
  let c0_i32_93 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_92 : BitVec 32 := 1#32
  let v87 : BitVec 32 := Scalar.muli v4 c1_i32_92
  let v88 : BitVec 32 := Scalar.addi c0_i32_93 v87
  v88.toNat
def k0_dev12 (d0 : Dev nD) : Nat :=
  let c0_i32_104 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_103 : BitVec 32 := 1#32
  let v97 : BitVec 32 := Scalar.muli v5 c1_i32_103
  let v98 : BitVec 32 := Scalar.addi c0_i32_104 v97
  v98.toNat
def k0_dev13 (d0 : Dev nD) : Nat :=
  let c0_i32_115 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_114 : BitVec 32 := 1#32
  let v107 : BitVec 32 := Scalar.muli v3 c1_i32_114
  let v108 : BitVec 32 := Scalar.addi c0_i32_115 v107
  v108.toNat
def k0_dev14 (d0 : Dev nD) : Nat :=
  let c0_i32_126 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_125 : BitVec 32 := 1#32
  let v117 : BitVec 32 := Scalar.muli v4 c1_i32_125
  let v118 : BitVec 32 := Scalar.addi c0_i32_126 v117
  v118.toNat
def k0_dev15 (d0 : Dev nD) : Nat :=
  let c0_i32_137 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_136 : BitVec 32 := 1#32
  let v127 : BitVec 32 := Scalar.muli v5 c1_i32_136
  let v128 : BitVec 32 := Scalar.addi c0_i32_137 v127
  v128.toNat
def k0_dev16 (d0 : Dev nD) : Nat :=
  let c0_i32_232 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_231 : BitVec 32 := 1#32
  let v260 : BitVec 32 := Scalar.muli v4 c1_i32_231
  let v261 : BitVec 32 := Scalar.addi c0_i32_232 v260
  v261.toNat
def k0_dev17 (d0 : Dev nD) : Nat :=
  let c0_i32_254 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_253 : BitVec 32 := 1#32
  let v278 : BitVec 32 := Scalar.muli v5 c1_i32_253
  let v279 : BitVec 32 := Scalar.addi c0_i32_254 v278
  v279.toNat
def k0_dev18 (d0 : Dev nD) : Nat :=
  let c0_i32_277 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_276 : BitVec 32 := 1#32
  let v296 : BitVec 32 := Scalar.muli v3 c1_i32_276
  let v297 : BitVec 32 := Scalar.addi c0_i32_277 v296
  v297.toNat
def k0_dev19 (d0 : Dev nD) : Nat :=
  let c0_i32_300 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_299 : BitVec 32 := 1#32
  let v314 : BitVec 32 := Scalar.muli v4 c1_i32_299
  let v315 : BitVec 32 := Scalar.addi c0_i32_300 v314
  v315.toNat
def k0_dev20 (d0 : Dev nD) : Nat :=
  let c0_i32_323 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_322 : BitVec 32 := 1#32
  let v332 : BitVec 32 := Scalar.muli v5 c1_i32_322
  let v333 : BitVec 32 := Scalar.addi c0_i32_323 v332
  v333.toNat
def k0_dev21 (d0 : Dev nD) : Nat :=
  let c0_i32_346 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_345 : BitVec 32 := 1#32
  let v350 : BitVec 32 := Scalar.muli v3 c1_i32_345
  let v351 : BitVec 32 := Scalar.addi c0_i32_346 v350
  v351.toNat
def k0_dev22 (d0 : Dev nD) : Nat :=
  let c0_i32_368 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_367 : BitVec 32 := 1#32
  let v368 : BitVec 32 := Scalar.muli v4 c1_i32_367
  let v369 : BitVec 32 := Scalar.addi c0_i32_368 v368
  v369.toNat
def k0_dev23 (d0 : Dev nD) : Nat :=
  let c0_i32_391 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_390 : BitVec 32 := 1#32
  let v386 : BitVec 32 := Scalar.muli v5 c1_i32_390
  let v387 : BitVec 32 := Scalar.addi c0_i32_391 v386
  v387.toNat
def k0_dev24 (d0 : Dev nD) : Nat :=
  let c0_i32_414 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_413 : BitVec 32 := 1#32
  let v404 : BitVec 32 := Scalar.muli v3 c1_i32_413
  let v405 : BitVec 32 := Scalar.addi c0_i32_414 v404
  v405.toNat
def k0_dev25 (d0 : Dev nD) : Nat :=
  let c0_i32_436 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_435 : BitVec 32 := 1#32
  let v422 : BitVec 32 := Scalar.muli v4 c1_i32_435
  let v423 : BitVec 32 := Scalar.addi c0_i32_436 v422
  v423.toNat
def k0_dev26 (d0 : Dev nD) : Nat :=
  let c0_i32_459 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_458 : BitVec 32 := 1#32
  let v440 : BitVec 32 := Scalar.muli v5 c1_i32_458
  let v441 : BitVec 32 := Scalar.addi c0_i32_459 v440
  v441.toNat
def k0_dev27 (d0 : Dev nD) : Nat :=
  let c0_i32_482 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_481 : BitVec 32 := 1#32
  let v458 : BitVec 32 := Scalar.muli v3 c1_i32_481
  let v459 : BitVec 32 := Scalar.addi c0_i32_482 v458
  v459.toNat
def k0_dev28 (d0 : Dev nD) : Nat :=
  let c0_i32_730 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_729 : BitVec 32 := 1#32
  let v824 : BitVec 32 := Scalar.muli v3 c1_i32_729
  let v825 : BitVec 32 := Scalar.addi c0_i32_730 v824
  v825.toNat
def k0_dev29 (d0 : Dev nD) : Nat :=
  let c0_i32_753 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_752 : BitVec 32 := 1#32
  let v842 : BitVec 32 := Scalar.muli v3 c1_i32_752
  let v843 : BitVec 32 := Scalar.addi c0_i32_753 v842
  v843.toNat
def k0_dev30 (d0 : Dev nD) : Nat :=
  let c0_i32_777 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_776 : BitVec 32 := 1#32
  let v860 : BitVec 32 := Scalar.muli v4 c1_i32_776
  let v861 : BitVec 32 := Scalar.addi c0_i32_777 v860
  v861.toNat
def k0_dev31 (d0 : Dev nD) : Nat :=
  let c0_i32_801 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_800 : BitVec 32 := 1#32
  let v878 : BitVec 32 := Scalar.muli v4 c1_i32_800
  let v879 : BitVec 32 := Scalar.addi c0_i32_801 v878
  v879.toNat
abbrev stage0_0 : Fin 1 → Memref sig .tc .vmem S2x128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x128x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S16x128x512 : Shape := ⟨3, ![16, 128, 512]⟩
abbrev S512x2048 : Shape := ⟨2, ![512, 2048]⟩
abbrev S16x128x32x64 : Shape := ⟨4, ![16, 128, 32, 64]⟩
abbrev S2048x512 : Shape := ⟨2, ![2048, 512]⟩
abbrev S16x128x2048 : Shape := ⟨3, ![16, 128, 2048]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S_ : Shape := ⟨0, ![]⟩
abbrev S16x32x128x128 : Shape := ⟨4, ![16, 32, 128, 128]⟩
abbrev S1x1x128x128 : Shape := ⟨4, ![1, 1, 128, 128]⟩
abbrev S16x32x128 : Shape := ⟨3, ![16, 32, 128]⟩
abbrev S16x32x128x1 : Shape := ⟨4, ![16, 32, 128, 1]⟩
abbrev S1x1x128x1 : Shape := ⟨4, ![1, 1, 128, 1]⟩
abbrev S16x32x64x128 : Shape := ⟨4, ![16, 32, 64, 128]⟩

abbrev nBuf : Space → Nat
  | .hbm => 57
  | .vmem => 0
  | .smem => 0
  | _ => 0

abbrev bufTy : (tb : Table) → Fin (tcTables nBuf tb) → BufTy
  | .hbm, ⟨0, _⟩ => ⟨S16x128x512, .f32⟩
  | .hbm, ⟨1, _⟩ => ⟨S512x2048, .f32⟩
  | .hbm, ⟨2, _⟩ => ⟨S16x128x32x64, .f32⟩
  | .hbm, ⟨3, _⟩ => ⟨S16x128x32x64, .f32⟩
  | .hbm, ⟨4, _⟩ => ⟨S2048x512, .f32⟩
  | .hbm, ⟨5, _⟩ => ⟨S16x128x2048, .f32⟩
  | .hbm, ⟨6, _⟩ => ⟨S16x128x32x64, .f32⟩
  | .hbm, ⟨7, _⟩ => ⟨S128, .i32⟩
  | .hbm, ⟨8, _⟩ => ⟨S128x1, .i32⟩
  | .hbm, ⟨9, _⟩ => ⟨S128, .i32⟩
  | .hbm, ⟨10, _⟩ => ⟨S1x128, .i32⟩
  | .hbm, ⟨11, _⟩ => ⟨S128x128, .i32⟩
  | .hbm, ⟨12, _⟩ => ⟨S128x128, .i32⟩
  | .hbm, ⟨13, _⟩ => ⟨S128x128, .i32⟩
  | .hbm, ⟨14, _⟩ => ⟨S128x128, .i32⟩
  | .hbm, ⟨15, _⟩ => ⟨S_, .i32⟩
  | .hbm, ⟨16, _⟩ => ⟨S128x128, .i32⟩
  | .hbm, ⟨17, _⟩ => ⟨S128x128, .i1⟩
  | .hbm, ⟨18, _⟩ => ⟨S16x32x128x128, .f32⟩
  | .hbm, ⟨19, _⟩ => ⟨S_, .f32⟩
  | .hbm, ⟨20, _⟩ => ⟨S16x32x128x128, .f32⟩
  | .hbm, ⟨21, _⟩ => ⟨S16x32x128x128, .f32⟩
  | .hbm, ⟨22, _⟩ => ⟨S1x1x128x128, .i1⟩
  | .hbm, ⟨23, _⟩ => ⟨S_, .f32⟩
  | .hbm, ⟨24, _⟩ => ⟨S_, .f32⟩
  | .hbm, ⟨25, _⟩ => ⟨S16x32x128x128, .i1⟩
  | .hbm, ⟨26, _⟩ => ⟨S16x32x128x128, .f32⟩
  | .hbm, ⟨27, _⟩ => ⟨S16x32x128x128, .f32⟩
  | .hbm, ⟨28, _⟩ => ⟨S_, .f32⟩
  | .hbm, ⟨29, _⟩ => ⟨S16x32x128, .f32⟩
  | .hbm, ⟨30, _⟩ => ⟨S16x32x128x1, .f32⟩
  | .hbm, ⟨31, _⟩ => ⟨S16x32x128x128, .f32⟩
  | .hbm, ⟨32, _⟩ => ⟨S16x32x128x128, .f32⟩
  | .hbm, ⟨33, _⟩ => ⟨S16x32x128x128, .f32⟩
  | .hbm, ⟨34, _⟩ => ⟨S_, .i1⟩
  | .hbm, ⟨35, _⟩ => ⟨S128, .i1⟩
  | .hbm, ⟨36, _⟩ => ⟨S1x1x128x1, .i1⟩
  | .hbm, ⟨37, _⟩ => ⟨S_, .f32⟩
  | .hbm, ⟨38, _⟩ => ⟨S16x32x128, .f32⟩
  | .hbm, ⟨39, _⟩ => ⟨S16x32x128x1, .f32⟩
  | .hbm, ⟨40, _⟩ => ⟨S_, .f32⟩
  | .hbm, ⟨41, _⟩ => ⟨S_, .f32⟩
  | .hbm, ⟨42, _⟩ => ⟨S16x32x128x1, .i1⟩
  | .hbm, ⟨43, _⟩ => ⟨S16x32x128x1, .f32⟩
  | .hbm, ⟨44, _⟩ => ⟨S16x32x128x1, .f32⟩
  | .hbm, ⟨45, _⟩ => ⟨S16x32x128x128, .f32⟩
  | .hbm, ⟨46, _⟩ => ⟨S16x32x128x128, .f32⟩
  | .hbm, ⟨47, _⟩ => ⟨S1x1x128x1, .i1⟩
  | .hbm, ⟨48, _⟩ => ⟨S_, .f32⟩
  | .hbm, ⟨49, _⟩ => ⟨S_, .f32⟩
  | .hbm, ⟨50, _⟩ => ⟨S16x32x128x128, .i1⟩
  | .hbm, ⟨51, _⟩ => ⟨S16x32x128x128, .f32⟩
  | .hbm, ⟨52, _⟩ => ⟨S16x32x128x128, .f32⟩
  | .hbm, ⟨53, _⟩ => ⟨S16x32x64x128, .f32⟩
  | .hbm, ⟨54, _⟩ => ⟨S16x128x32x64, .f32⟩
  | .hbm, ⟨55, _⟩ => ⟨S16x128x2048, .f32⟩
  | .hbm, ⟨56, _⟩ => ⟨S16x128x512, .f32⟩
  | _, _ => ⟨S16x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_2 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_5 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩

abbrev nD : Nat := 1
abbrev τ : Topo := Topo.v7x

variable {F : FTy → Type} [FloatOps F]
-- ==== Proof.Common.lean ====
/-
  The exchange the kernel performs, as data: who the three neighbours of a device are, the 28 remote copies in the order
  the program starts them, the quarter of the weight buffers each one reads and writes, and the semaphores it completes on.
-/
module

public import proofs.«01_k».proof.Proof.Gen.KernelIdeal
public import proofs.«01_k».proof.Proof.Gen.KernelIdeal.Launch
public import Idealize.ShloMosaic.Lib.Pipeline.Regions
public import Idealize.ShloMosaic.Lib.Pipeline.Value
public import Idealize.ShloMosaic.Lib.Rounds
public import Idealize.ShloMosaic.Lib.Ring
public import Idealize.ShloMosaic.Lib.Tactic
public import Idealize.ShloMosaic.Lib.ValueLayout

@[expose] public section

noncomputable section

namespace Cert.Proof.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! ## Neighbours -/

/-- The neighbour in direction 0 (along x), 1 (along y), 2 (along z). -/
def peer : Fin 3 → Dev nD → Dev nD :=
  ![![1, 0, 3, 2, 5, 4, 7, 6], ![3, 2, 1, 0, 7, 6, 5, 4], ![4, 5, 6, 7, 0, 1, 2, 3]]

theorem peer_peer (d : Fin 3) (c : Dev nD) : peer d (peer d c) = c := by revert d c; decide

/-- A direction's neighbours as a permutation of the devices. -/
def peerEquiv (d : Fin 3) : Dev nD ≃ Dev nD := ⟨peer d, peer d, peer_peer d, peer_peer d⟩

/-- The device whose weights slot `s` of the gathered buffer on device `c` receives. -/
def owner : Fin 7 → Dev nD → Dev nD :=
  ![peer 0, peer 1, peer 2, fun c => peer 0 (peer 2 c), fun c => peer 0 (peer 1 c), fun c => peer 1 (peer 2 c),
    fun c => peer 0 (peer 1 (peer 2 c))]

/-! ## The 28 remote copies, in program order -/

/-- The direction a copy goes. -/
def dirOf : Fin 28 → Fin 3 :=
  ![0, 1, 2, 0, 1, 2, 0, 1, 2, 0, 1, 2, 1, 2, 0, 1, 2, 0, 1, 2, 0, 1, 2, 0, 0, 0, 1, 1]
/-- The slot of the neighbour's gathered buffer it writes. -/
def slotOf : Fin 28 → Fin 7 :=
  ![0, 1, 2, 0, 1, 2, 0, 1, 2, 0, 1, 2, 4, 5, 3, 4, 5, 3, 4, 5, 3, 4, 5, 3, 6, 6, 6, 6]
/-- Which of the two weights (query, output) the copied quarter is of. -/
def halfOf : Fin 28 → Fin 2 :=
  ![0, 0, 0, 0, 0, 0, 1, 1, 1, 1, 1, 1, 0, 0, 0, 0, 0, 0, 1, 1, 1, 1, 1, 1, 0, 0, 1, 1]
/-- Which half of its 512 rows. -/
def rowOf : Fin 28 → Fin 2 :=
  ![0, 0, 0, 1, 1, 1, 0, 0, 0, 1, 1, 1, 0, 0, 0, 1, 1, 1, 0, 0, 0, 1, 1, 1, 0, 1, 0, 1]
/-- The semaphore a copy completes on at its sender. -/
def sndSem : Fin 28 → DmaSem sig :=
  ![5, 25, 45, 6, 26, 46, 7, 27, 47, 8, 28, 48, 29, 49, 9, 30, 50, 10, 31, 51, 11, 32, 52, 12, 13, 14, 33, 34]
/-- The semaphore a copy completes on at its receiver. -/
def rcvSem : Fin 28 → DmaSem sig :=
  ![15, 35, 53, 16, 36, 54, 17, 37, 55, 18, 38, 56, 39, 57, 19, 40, 58, 20, 41, 59, 21, 42, 60, 22, 23, 24, 43, 44]
/-- For a copy of the second and third round: the copy whose arrival it passes on. -/
def fromOf : Fin 28 → Fin 28 :=
  ![0, 0, 0, 0, 0, 0, 0, 0, 0, 0, 0, 0, 0, 1, 2, 3, 4, 5, 6, 7, 8, 9, 10, 11, 13, 16, 20, 23]

theorem block_inj : Function.Injective fun i : Fin 28 => (slotOf i, halfOf i, rowOf i) := by decide
theorem block_surj (s : Fin 7) (h r : Fin 2) : ∃ i : Fin 28, slotOf i = s ∧ halfOf i = h ∧ rowOf i = r := by
  revert s h r; decide
theorem sndSem_inj : Function.Injective sndSem := by decide
theorem rcvSem_inj : Function.Injective rcvSem := by decide
theorem snd_ne_rcv (i j : Fin 28) : sndSem i ≠ rcvSem j := by revert i j; decide
theorem halfOf_from (i : Fin 28) (h : 12 ≤ i.val) : halfOf (fromOf i) = halfOf i := by revert i; decide
theorem rowOf_from (i : Fin 28) (h : 12 ≤ i.val) : rowOf (fromOf i) = rowOf i := by revert i; decide
theorem owner_first (i : Fin 28) (h : i.val < 12) (c : Dev nD) : owner (slotOf i) (peer (dirOf i) c) = c := by
  revert i c; decide
theorem owner_from (i : Fin 28) (h : 12 ≤ i.val) (c : Dev nD) :
    owner (slotOf i) (peer (dirOf i) c) = owner (slotOf (fromOf i)) c := by
  revert i c; decide

/-! ## The quarters, as memrefs -/

abbrev wcM : Memref sig .tc .vmem S2x512x256 .bf16 := Memref.whole cc0_stg1_0
abbrev wgM : Memref sig .tc .vmem S7x2x512x256 .bf16 := Memref.whole cc0_scratch0

theorem wc_inb (h r : Fin 2) : ∀ a, (![h.val, 256 * r.val, 0] : Fin 3 → Nat) a + S1x256x256.size a ≤ S2x512x256.size a := by
  revert h r; decide
theorem wg_inb (s : Fin 7) (h r : Fin 2) :
    ∀ a, (![s.val, h.val, 256 * r.val, 0] : Fin 4 → Nat) a + S1x1x256x256.size a ≤ S7x2x512x256.size a := by
  revert s h r; decide

/-- The rectangle of a quarter of a device's own weights, and of a quarter of a slot. -/
abbrev wcR (h r : Fin 2) : Rect S2x512x256 := Rect.unit (s := S2x512x256) ![h.val, 256 * r.val, 0] S1x256x256.size (wc_inb h r)
abbrev wgR (s : Fin 7) (h r : Fin 2) : Rect S7x2x512x256 :=
  Rect.unit (s := S7x2x512x256) ![s.val, h.val, 256 * r.val, 0] S1x1x256x256.size (wg_inb s h r)

/-- A quarter of a device's own weights. -/
abbrev wcQ (i : Fin 28) : Memref sig .tc .vmem S256x256 .bf16 :=
  (wcM.slice (wcR (halfOf i) (rowOf i)) (fun _ => rfl)).squeeze S256x256 squeezes_S1x256x256_S256x256
/-- The quarter copy `i` writes. -/
abbrev wgQ (i : Fin 28) : Memref sig .tc .vmem S256x256 .bf16 :=
  (wgM.slice (wgR (slotOf i) (halfOf i) (rowOf i)) (fun _ => rfl)).squeeze S256x256 squeezes_S1x1x256x256_S256x256

theorem wgQ_set (i : Fin 28) : (wgQ i).view.set = (wgR (slotOf i) (halfOf i) (rowOf i)).set := by
  rw [Memref.set_view_squeeze]; exact View.set_slice_whole _ _

theorem wcQ_set (i : Fin 28) : (wcQ i).view.set = (wcR (halfOf i) (rowOf i)).set := by
  rw [Memref.set_view_squeeze]; exact View.set_slice_whole _ _

theorem mem_wgQ (i : Fin 28) (x : S7x2x512x256.Idx) : x ∈ (wgR (slotOf i) (halfOf i) (rowOf i)).set ↔
    ((x 0).val = (slotOf i).val ∧ (x 1).val = (halfOf i).val) ∧ (x 2).val / 256 = (rowOf i).val := by
  rw [Rect.mem_set_unit]
  constructor
  · intro h
    have h0 := h 0; have h1 := h 1; have h2 := h 2
    simp [S1x1x256x256] at h0 h1 h2
    omega
  · rintro ⟨⟨h0, h1⟩, h2⟩ a
    have h3 := (x 3).isLt
    fin_cases a
    · simp [S1x1x256x256]; omega
    · simp [S1x1x256x256]; omega
    · simp [S1x1x256x256]; omega
    · simpa [S1x1x256x256, S7x2x512x256] using h3

theorem wgQ_disjoint {i j : Fin 28} (h : i ≠ j) : Disjoint (wgQ i).view.set (wgQ j).view.set := by
  rw [wgQ_set, wgQ_set, Finset.disjoint_left]
  intro x hx hy
  rw [mem_wgQ] at hx hy
  exact h (block_inj (Prod.ext (Fin.ext (hx.1.1.symm.trans hy.1.1))
    (Prod.ext (Fin.ext (hx.1.2.symm.trans hy.1.2)) (Fin.ext (hx.2.symm.trans hy.2)))))

/-- Every element of the gathered buffer lies in the quarter of some copy. -/
theorem wgQ_cover (x : S7x2x512x256.Idx) : ∃ i, slotOf i = x 0 ∧ x ∈ (wgQ i).view.set := by
  have h2 : (x 2).val / 256 < 2 := by have := (x 2).isLt; change (x 2).val < 512 at this; omega
  obtain ⟨i, hs, hh, hr⟩ := block_surj (x 0) (x 1) ⟨(x 2).val / 256, h2⟩
  refine ⟨i, hs, ?_⟩
  rw [wgQ_set, mem_wgQ, hs, hh, hr]
  exact ⟨⟨rfl, rfl⟩, rfl⟩

/-! ## Cells -/

abbrev barCell (c : Dev nD) : GSem nD τ sig := ((c : Thread nD τ), .reg barrier0)
abbrev sndCell (i : Fin 28) (c : Dev nD) : GSem nD τ sig := ((c : Thread nD τ), .dma (sndSem i))
abbrev rcvCell (i : Fin 28) (c : Dev nD) : GSem nD τ sig := ((c : Thread nD τ), .dma (rcvSem i))

/-- What one copy credits each of its two cells. -/
abbrev N : ℕ := (wgQ 0).view.dmaCredit
theorem N_pos : 0 < N := View.dmaCredit_pos _ (by decide)
theorem credit_wgQ (i : Fin 28) : (wgQ i).view.dmaCredit = N := rfl
theorem credit_wcQ (i : Fin 28) : (wcQ i).view.dmaCredit = N := rfl

/-- What a semaphore is for. -/
inductive Role where
  | bar | snd (i : Fin 28) | rcv (i : Fin 28) | other
  deriving DecidableEq

def role : SemLoc sig → Role
  | .reg _ => .bar
  | .dma s => match (List.finRange 28).find? (fun i => sndSem i = s) with
    | some i => .snd i
    | none => match (List.finRange 28).find? (fun i => rcvSem i = s) with
      | some i => .rcv i
      | none => .other

theorem role_bar : role (.reg barrier0) = .bar := rfl
theorem role_snd (i : Fin 28) : role (.dma (sndSem i)) = .snd i := by revert i; decide
theorem role_rcv (i : Fin 28) : role (.dma (rcvSem i)) = .rcv i := by revert i; decide

end Cert.Proof.Talk
-- ==== Proof.Protocol.lean ====
/-
  The rules of the exchange: what every buffer holds at which moment, what each semaphore's units stand for, and in which
  order a device may wait while it still owes arrivals to others.
-/
module

public import proofs.«01_k».proof.Proof.Common

@[expose] public section

noncomputable section

namespace Cert.Proof.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

/-- The exchange's bookkeeping: three kinds of payer per semaphore (a direction each). -/
abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-- The contents of a device's own weights, and of its gathered buffer. -/
abbrev WC (F : FTy → Type) : Type := (cc0_stg1_0 : Ref sig .tc).ty.Contents (Elt F)
abbrev WG (F : FTy → Type) : Type := (cc0_scratch0 : Ref sig .tc).ty.Contents (Elt F)

variable (X : Dev nD → WC F)

/-- The gathered buffer of device `c` once everything has landed: slot `s` is the weights of `owner s c`. -/
def gathered (c : Dev nD) : WG F := fun x => X (owner (x 0) c) (ix3 (n0 := 2) (n1 := 512) (n2 := 256) (x 1) (x 2) (x 3))

theorem wgQ_emb (i : Fin 28) (a b : Fin 256) : (wgQ i).view.emb (ix2 a b) =
    ix4 (n0 := 7) (n1 := 2) (n2 := 512) (n3 := 256) (slotOf i) (halfOf i) ⟨256 * (rowOf i).val + a.val, by omega⟩ b := by
  show (wgR (slotOf i) (halfOf i) (rowOf i)).emb (Shape.reshapeEquiv _ (ix2 a b)) = _
  rw [reshapeEquiv_ix2_11ab]
  funext k
  fin_cases k <;> apply Fin.ext <;> simp [Rect.emb_apply]

theorem wcQ_emb (i : Fin 28) (a b : Fin 256) : (wcQ i).view.emb (ix2 a b) =
    ix3 (n0 := 2) (n1 := 512) (n2 := 256) (halfOf i) ⟨256 * (rowOf i).val + a.val, by omega⟩ b := by
  show (wcR (halfOf i) (rowOf i)).emb (Shape.reshapeEquiv _ (ix2 a b)) = _
  rw [reshapeEquiv_ix2_1ab]
  funext k
  fin_cases k <;> apply Fin.ext <;> simp [Rect.emb_apply]

theorem mem_wgQ_emb {i : Fin 28} {x : S7x2x512x256.Idx} (h : x ∈ (wgQ i).view.set) : ∃ a b : Fin 256, x = (wgQ i).view.emb (ix2 a b) := by
  obtain ⟨y, -, rfl⟩ := Finset.mem_map.mp h
  exact ⟨y 0, y 1, congrArg (wgQ i).view.emb (eq_ix2 (n0 := 256) (n1 := 256) y)⟩

/-- A copy of the first round lands the sender's own quarter. -/
theorem land_first (i : Fin 28) (hi : i.val < 12) (c : Dev nD) (fd : WG F) :
    ∀ x ∈ (wgQ i).view.set, (wgQ i).view.write (Elt F) fd ((wcQ i).view.read (Elt F) (X c)) Finset.univ x
      = gathered X (peer (dirOf i) c) x := by
  intro x hx
  obtain ⟨a, b, rfl⟩ := mem_wgQ_emb hx
  rw [View.write_emb_of_mem _ _ (Finset.mem_univ _), View.read_apply, wcQ_emb, wgQ_emb]
  show X c _ = X (owner (slotOf i) (peer (dirOf i) c)) _
  rw [owner_first i hi]; rfl

/-- A later copy lands the quarter the sender received before. -/
theorem land_from (i : Fin 28) (hi : 12 ≤ i.val) (c : Dev nD) (fd : WG F) :
    ∀ x ∈ (wgQ i).view.set, (wgQ i).view.write (Elt F) fd ((wgQ (fromOf i)).view.read (Elt F) (gathered X c)) Finset.univ x
      = gathered X (peer (dirOf i) c) x := by
  intro x hx
  obtain ⟨a, b, rfl⟩ := mem_wgQ_emb hx
  rw [View.write_emb_of_mem _ _ (Finset.mem_univ _), View.read_apply, wgQ_emb, wgQ_emb]
  show X (owner (slotOf (fromOf i)) c) (ix3 (halfOf (fromOf i)) ⟨256 * (rowOf (fromOf i)).val + a.val, by omega⟩ b)
    = X (owner (slotOf i) (peer (dirOf i) c)) (ix3 (halfOf i) ⟨256 * (rowOf i).val + a.val, by omega⟩ b)
  simp only [owner_from i hi, halfOf_from i hi, rowOf_from i hi]

/-! ## Holdings -/

/-- A quarter of device `c`'s gathered buffer, and of its own weights. -/
abbrev wgPts (c : Dev nD) (i : Fin 28) (q : PosShare TreeShare) (f : WG F) : sProp 𝕄 :=
  ((c : Thread nD τ).loc cc0_scratch0) ↦[(wgQ i).view.set]{q} f
abbrev wcPts (c : Dev nD) (i : Fin 28) (q : PosShare TreeShare) (f : WC F) : sProp 𝕄 :=
  ((c : Thread nD τ).loc cc0_stg1_0) ↦[(wcQ i).view.set]{q} f

/-- The share of a quarter lent to each direction's copy; the fourth quarter share stays for reading. -/
def shareOf : Fin 3 → PosShare TreeShare := ![fullShare.left.left, fullShare.left.right, fullShare.right.left]

/-- What copy `i` reads and gives back. -/
def source (i : Fin 28) (c : Dev nD) : sProp 𝕄 :=
  if i.val < 12 then wcPts c i (shareOf (dirOf i)) (X c) else wgPts c (fromOf i) fullShare.left (gathered X c)

/-- What a neighbour in direction `d` pays into device `c`'s barrier: the quarters `c`'s copies write there, and that the
    semaphores they complete on are ready. -/
def barPay (c : Dev nD) (d : Fin 3) : sProp 𝕄 :=
  bigSep (Finset.univ.filter fun i : Fin 28 => dirOf i = d) fun i =>
    iprop((∃ f, wgPts (peer d c) i fullShare f) ∗ reached ER (rcvCell i (peer d c)) 0)

def sched : Rounds.Schedule (GSem nD τ sig) (Fin 3) 𝕄 where
  duties g r := if r = 0 ∧ g.1.2 = .tc then
      (match role g.2 with | .bar => Finset.univ | .snd _ => {0} | .rcv _ => {0} | .other => ∅) else ∅
  unitless _ := False
  amount g _ _ := if role g.2 = .bar then 1 else N
  payload g _ d := match role g.2 with
    | .bar => barPay g.1.1 d
    | .snd i => source X i g.1.1
    | .rcv i => wgPts g.1.1 i fullShare (gathered X g.1.1)
    | .other => iprop(emp)
  amount_pos g _ _ _ := by split; exacts [Nat.one_pos, N_pos]

instance sched_payload_storable (g : GSem nD τ sig) (r : ℕ) (d : Fin 3) :
    BI.Storable (upEmb : UEmb _ 𝕄) ((sched X).payload g r d) := by
  show BI.Storable upEmb (match role g.2 with
    | .bar => barPay g.1.1 d
    | .snd i => source X i g.1.1
    | .rcv i => wgPts g.1.1 i fullShare (gathered X g.1.1)
    | .other => iprop(emp))
  unfold barPay source
  (repeat' split) <;> infer_instance

section Sched
variable (c : Dev nD) (i : Fin 28)

theorem duties_bar : (sched X).duties (barCell c) 0 = Finset.univ := rfl
theorem duties_snd : (sched X).duties (sndCell i c) 0 = {0} := by
  dsimp only [sched]; rw [if_pos ⟨rfl, rfl⟩, role_snd]
theorem duties_rcv : (sched X).duties (rcvCell i c) 0 = {0} := by
  dsimp only [sched]; rw [if_pos ⟨rfl, rfl⟩, role_rcv]
theorem duties_later (g : GSem nD τ sig) : ∀ r, 0 + 1 ≤ r → (sched X).duties g r = ∅ :=
  fun r hr => by dsimp only [sched]; rw [if_neg (fun h => by omega)]

theorem amount_bar (d : Fin 3) : (sched X).amount (barCell c) 0 d = 1 := rfl
theorem amount_snd (d : Fin 3) : (sched X).amount (sndCell i c) 0 d = N := by
  dsimp only [sched]; rw [role_snd, if_neg (by simp)]
theorem amount_rcv (d : Fin 3) : (sched X).amount (rcvCell i c) 0 d = N := by
  dsimp only [sched]; rw [role_rcv, if_neg (by simp)]

theorem expect_bar : (sched X).expect (barCell c) 0 = 3 := by
  unfold Schedule.expect Schedule.amountOf; rw [duties_bar, Finset.sum_congr rfl (fun d _ => amount_bar X c d)]; rfl
theorem expect_snd : (sched X).expect (sndCell i c) 0 = N := by
  unfold Schedule.expect Schedule.amountOf; rw [duties_snd, Finset.sum_singleton, amount_snd]
theorem expect_rcv : (sched X).expect (rcvCell i c) 0 = N := by
  unfold Schedule.expect Schedule.amountOf; rw [duties_rcv, Finset.sum_singleton, amount_rcv]

theorem payload_bar (d : Fin 3) : (sched X).payload (barCell c) 0 d = barPay c d := rfl
theorem payload_snd (d : Fin 3) : (sched X).payload (sndCell i c) 0 d = source X i c := by
  dsimp only [sched]; rw [role_snd]
theorem payload_rcv (d : Fin 3) : (sched X).payload (rcvCell i c) 0 d = wgPts c i fullShare (gathered X c) := by
  dsimp only [sched]; rw [role_rcv]

theorem rest_bar : bigSep ((sched X).duties (barCell c) 0 \ ∅) (fun u => (sched X).payload (barCell c) 0 u)
    = bigSep Finset.univ (fun d => barPay (F := F) c d) := by
  rw [Finset.sdiff_empty, duties_bar]; rfl
theorem rest_snd : bigSep ((sched X).duties (sndCell i c) 0 \ ∅) (fun u => (sched X).payload (sndCell i c) 0 u) = source X i c := by
  rw [Finset.sdiff_empty, duties_snd, bigSep_singleton, payload_snd]
theorem rest_rcv : bigSep ((sched X).duties (rcvCell i c) 0 \ ∅) (fun u => (sched X).payload (rcvCell i c) 0 u)
    = wgPts c i fullShare (gathered X c) := by
  rw [Finset.sdiff_empty, duties_rcv, bigSep_singleton, payload_rcv]

end Sched

/-! ## What a device owes, and the order of waiting -/

/-- Before copy `n`: the arrivals of the copies still to come. -/
def owed (n : ℕ) (c : Dev nD) : CellTallies nD τ sig Unit :=
  ∑ i ∈ Finset.univ.filter (fun i : Fin 28 => n ≤ i.val), tallyAt (rcvCell i (peer (dirOf i) c)) () N

theorem owed_succ (i : Fin 28) (c : Dev nD) :
    owed i.val c = owed (i.val + 1) c + tallyAt (rcvCell i (peer (dirOf i) c)) () N := by
  unfold owed
  rw [show (Finset.univ.filter fun j : Fin 28 => i.val ≤ j.val)
      = insert i (Finset.univ.filter fun j : Fin 28 => i.val + 1 ≤ j.val) by
    ext j; simp only [Finset.mem_filter, Finset.mem_univ, true_and, Finset.mem_insert, Fin.ext_iff]; omega]
  rw [Finset.sum_insert (by simp), add_comm]
theorem owed_end (n : ℕ) (h : 28 ≤ n) (c : Dev nD) : owed n c = 0 := by
  unfold owed
  rw [Finset.filter_false_of_mem (fun i _ => by omega), Finset.sum_empty]

/-- At launch: those, and one unit to each neighbour's barrier. -/
def owedBar (n : ℕ) (c : Dev nD) : CellTallies nD τ sig Unit :=
  ∑ d ∈ Finset.univ.filter (fun d : Fin 3 => n ≤ d.val), tallyAt (barCell (peer d c)) () 1
def owedAll (c : Dev nD) : CellTallies nD τ sig Unit := owed 0 c + owedBar 0 c

theorem owedBar_succ (d : Fin 3) (c : Dev nD) :
    owedBar d.val c = owedBar (d.val + 1) c + tallyAt (barCell (peer d c)) () 1 := by
  unfold owedBar
  rw [show (Finset.univ.filter fun j : Fin 3 => d.val ≤ j.val)
      = insert d (Finset.univ.filter fun j : Fin 3 => d.val + 1 ≤ j.val) by
    ext j; simp only [Finset.mem_filter, Finset.mem_univ, true_and, Finset.mem_insert, Fin.ext_iff]; omega]
  rw [Finset.sum_insert (by simp), add_comm]
theorem owedBar_end (c : Dev nD) : owedBar 3 c = 0 := by
  unfold owedBar
  rw [Finset.filter_false_of_mem (fun i _ => by omega), Finset.sum_empty]

def L (g : GSem nD τ sig) : Finset Unit := if g.1.2 = .tc then {()} else ∅
/-- Barriers before every arrival, the arrivals in the order the program starts the copies. -/
def lv (g : GSem nD τ sig) (_ : Unit) : ℕ := match role g.2 with | .bar => 1 | .rcv i => i.val + 2 | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := rfl
theorem lv_rcv (i : Fin 28) (c : Dev nD) (u : Unit) : lv (rcvCell i c) u = i.val + 2 := by
  dsimp only [lv]; rw [role_rcv]

/-- A debt for copies from `n` on names only arrival cells of such copies. -/
theorem owed_pos {n : ℕ} {c : Dev nD} {g : GSem nD τ sig} {u : Unit} (h : 0 < owed n c g u) :
    ∃ i : Fin 28, n ≤ i.val ∧ g = rcvCell i (peer (dirOf i) c) := by
  by_contra hne
  push Not at hne
  refine absurd h (Nat.not_lt.mpr (Nat.le_of_eq ?_))
  unfold owed
  rw [Finset.sum_apply, Finsupp.finset_sum_apply]
  refine Finset.sum_eq_zero fun i hi => ?_
  rw [tallyAt_apply, if_neg (fun h => hne i (Finset.mem_filter.mp hi).2 h.1)]

theorem mayWait_at (c : Dev nD) (sm : SemLoc sig) (n b : ℕ) (hb : lv ((c : Thread nD τ), sm) () ≤ b) (hn : b < n + 2) :
    (levAts L lv : sProp 𝕄) ⊢ MayWait (c : Thread nD τ) sm () (owed n c) :=
  MayOwe.of_cut (L := L) (lev := lv) b (fun p hp => by rw [Finset.mem_singleton.mp hp, L_tc]; exact Finset.mem_singleton_self _)
    (fun g u hg => by
      obtain ⟨i, -, rfl⟩ := owed_pos hg
      rw [L_tc]; exact Finset.mem_singleton_self _)
    (fun p hp => by rw [Finset.mem_singleton.mp hp]; exact hb)
    (fun g u hg => by
      obtain ⟨i, hi, rfl⟩ := owed_pos hg
      rw [lv_rcv]; omega)

theorem mayWait_bar (c : Dev nD) :
    (levAts L lv : sProp 𝕄) ⊢ MayWait (c : Thread nD τ) (.reg barrier0) () (owed 0 c) :=
  mayWait_at c _ 0 1 (le_of_eq (lv_bar c ())) (by omega)
theorem mayWait_rcv (i : Fin 28) (n : ℕ) (h : i.val < n) (c : Dev nD) :
    (levAts L lv : sProp 𝕄) ⊢ MayWait (c : Thread nD τ) (.dma (rcvSem i)) () (owed n c) :=
  mayWait_at c _ n (i.val + 2) (le_of_eq (lv_rcv i c ())) (by omega)

end Cert.Proof.Talk
-- ==== Proof.Events.lean ====
/-
  The events of the exchange as rules for the program's statements: signalling a neighbour, passing the barrier, starting a
  copy, waiting for an arrival, waiting for a copy to have left. Each speaks of three progress states only: how many copies
  are started (`outs`), how many arrivals are taken (`ins`), how many departures are confirmed (`gone`).
-/
module

public import proofs.«01_k».proof.Proof.Protocol

@[expose] public section

noncomputable section

namespace Cert.Proof.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (X : Dev nD → WC F)

/-! ## Progress along the 28 copies -/

/-- Positions before `n` are at `B`, those from `n` on at `A`. -/
def prog (A B : Fin 28 → sProp 𝕄) (n : ℕ) : sProp 𝕄 :=
  bigSep Finset.univ fun k : Fin 28 => if n ≤ k.val then A k else B k

theorem prog_zero (A B : Fin 28 → sProp 𝕄) : prog A B 0 = bigSep Finset.univ A :=
  bigSep_congr fun k _ => if_pos (Nat.zero_le _)
theorem prog_end (A B : Fin 28 → sProp 𝕄) : prog A B 28 = bigSep Finset.univ B :=
  bigSep_congr fun k _ => if_neg (by omega)
theorem prog_step (A B : Fin 28 → sProp 𝕄) (k : Fin 28) : prog A B k.val ⊢ iprop(A k ∗ (B k -∗ prog A B (k.val + 1))) := by
  have h := bigSep_univ_update (M := 𝕄) (Φ := fun j : Fin 28 => if k.val ≤ j.val then A j else B j)
    (Ψ := fun j : Fin 28 => if k.val + 1 ≤ j.val then A j else B j) k (fun j hj => by
      have : j.val ≠ k.val := fun e => hj (Fin.ext e)
      by_cases h : k.val ≤ j.val
      · rw [if_pos h, if_pos (by omega)]
      · rw [if_neg h, if_neg (by omega)])
  rw [if_pos (le_refl k.val), if_neg (by omega : ¬ k.val + 1 ≤ k.val)] at h
  exact h

/-! ## The states -/

/-- The order arrivals are waited for. -/
def inOrd : Fin 28 → Fin 28 :=
  ![0, 1, 2, 3, 4, 5, 6, 7, 8, 9, 10, 11, 13, 16, 20, 23, 14, 17, 12, 15, 18, 21, 19, 22, 24, 25, 26, 27]
/-- The order departures are waited for. -/
def outOrd : Fin 28 → Fin 28 :=
  ![0, 3, 6, 9, 1, 4, 7, 10, 2, 5, 8, 11, 14, 17, 20, 23, 12, 15, 18, 21, 13, 16, 19, 22, 24, 25, 26, 27]

theorem inOrd_inj : Function.Injective inOrd := by decide
theorem outOrd_inj : Function.Injective outOrd := by decide
def inPerm : Fin 28 ≃ Fin 28 := Equiv.ofBijective inOrd (Finite.injective_iff_bijective.mp inOrd_inj)
def outPerm : Fin 28 ≃ Fin 28 := Equiv.ofBijective outOrd (Finite.injective_iff_bijective.mp outOrd_inj)

/-- All cells of the exchange. -/
def barCells : Finset (GSem nD τ sig) := Finset.univ.image barCell
def dmaCells : Finset (GSem nD τ sig) :=
  (Finset.univ.image fun p : Fin 28 × Dev nD => sndCell p.1 p.2) ∪ Finset.univ.image fun p : Fin 28 × Dev nD => rcvCell p.1 p.2

theorem bar_mem (c : Dev nD) : barCell c ∈ barCells ∪ dmaCells :=
  Finset.mem_union_left _ (Finset.mem_image_of_mem _ (Finset.mem_univ c))
theorem snd_mem (i : Fin 28) (c : Dev nD) : sndCell i c ∈ barCells ∪ dmaCells :=
  Finset.mem_union_right _ (Finset.mem_union_left _ (Finset.mem_image.mpr ⟨(i, c), Finset.mem_univ _, rfl⟩))
theorem rcv_mem (i : Fin 28) (c : Dev nD) : rcvCell i c ∈ barCells ∪ dmaCells :=
  Finset.mem_union_right _ (Finset.mem_union_right _ (Finset.mem_image.mpr ⟨(i, c), Finset.mem_univ _, rfl⟩))

/-- What is known for good: every cell follows the schedule, and has begun. -/
def known (K : GSem nD τ sig → ℕ) : sProp 𝕄 :=
  iprop(bigSep (barCells ∪ dmaCells) (fun g => cellInv ER (sched X) (K g) g) ∗ bigSep barCells (fun g => reached ER g 0))
def begun (c : Dev nD) : sProp 𝕄 :=
  iprop(bigSep Finset.univ (fun i : Fin 28 => reached ER (sndCell i c) 0) ∗ bigSep Finset.univ (fun i : Fin 28 => reached ER (rcvCell i c) 0))

instance known_persistent (K : GSem nD τ sig → ℕ) : BI.Persistent (known X K) := by unfold known; infer_instance
instance begun_persistent (c : Dev nD) : BI.Persistent (begun (F := F) c) := by unfold begun; infer_instance

theorem known_inv (K : GSem nD τ sig → ℕ) {g : GSem nD τ sig} (hg : g ∈ barCells ∪ dmaCells) :
    known X K ⊢ (cellInv ER (sched X) (K g) g : sProp 𝕄) := by
  unfold known
  iintro ⟨H, -⟩
  have h : (bigSep (barCells ∪ dmaCells) (fun g => cellInv ER (sched X) (K g) g) : sProp 𝕄) ⊢ cellInv ER (sched X) (K g) g := bigSep_elim hg
  iapply h $$ H
theorem known_bar (K : GSem nD τ sig → ℕ) (c : Dev nD) : known X K ⊢ (reached ER (barCell c) 0 : sProp 𝕄) := by
  unfold known
  iintro ⟨-, H⟩
  have h : (bigSep barCells (fun g => reached ER g 0) : sProp 𝕄) ⊢ reached ER (barCell c) 0 :=
    bigSep_elim (Finset.mem_image_of_mem barCell (Finset.mem_univ c))
  iapply h $$ H
theorem begun_snd (i : Fin 28) (c : Dev nD) : begun c ⊢ (reached ER (sndCell i c) 0 : sProp 𝕄) := by
  unfold begun
  iintro ⟨H, -⟩
  have h : (bigSep Finset.univ (fun i : Fin 28 => reached ER (sndCell i c) 0) : sProp 𝕄) ⊢ reached ER (sndCell i c) 0 := bigSep_elim (Finset.mem_univ i)
  iapply h $$ H
theorem begun_rcv (i : Fin 28) (c : Dev nD) : begun c ⊢ (reached ER (rcvCell i c) 0 : sProp 𝕄) := by
  unfold begun
  iintro ⟨-, H⟩
  have h : (bigSep Finset.univ (fun i : Fin 28 => reached ER (rcvCell i c) 0) : sProp 𝕄) ⊢ reached ER (rcvCell i c) 0 := bigSep_elim (Finset.mem_univ i)
  iapply h $$ H

/-- A copy not yet started: the right to complete it on both cells, the quarter it writes, and (first round) the quarter it
    reads. -/
def toSend (c : Dev nD) (i : Fin 28) : sProp 𝕄 :=
  iprop(dutyTok ER (sndCell i c) 0 0 ∗ dutyTok ER (rcvCell i (peer (dirOf i) c)) 0 0 ∗ atPos ER (sndCell i c) 0 ∅ 0
    ∗ (∃ f, wgPts (peer (dirOf i) c) i fullShare f) ∗ reached ER (rcvCell i (peer (dirOf i) c)) 0
    ∗ (if i.val < 12 then source X i c else iprop(emp)))
/-- A copy started: its departure can be waited for. -/
def sent (c : Dev nD) (i : Fin 28) : sProp 𝕄 :=
  iprop(atPos ER (sndCell i c) 0 ∅ 0 ∗ cred (tallyAt (sndCell i c) () N))
/-- `n` copies started. -/
def outs (n : ℕ) (c : Dev nD) : sProp 𝕄 :=
  iprop(prog (toSend X c) (sent c) n ∗ ∃ W, owes (c : Thread nD τ) (owed n c) W)

/-- An arrival not yet taken; one taken (its semaphore back at zero; the half of it that is not passed on). -/
def toTake (c : Dev nD) (k : Fin 28) : sProp 𝕄 :=
  iprop(atPos ER (rcvCell (inOrd k) c) 0 ∅ 0 ∗ cred (tallyAt (rcvCell (inOrd k) c) () N))
def passed (c : Dev nD) (k : Fin 28) : sProp 𝕄 := wgPts c (inOrd k) fullShare.left (gathered X c)
def taken (c : Dev nD) (k : Fin 28) : sProp 𝕄 :=
  iprop(semVal (rcvCell (inOrd k) c) 0 ∗ (if k.val < 16 then iprop(emp) else passed X c k))
def ins (n : ℕ) (c : Dev nD) : sProp 𝕄 := prog (toTake c) (taken X c) n

/-- The readable halves of the arrivals taken from `a` up to `n`. -/
def got (a n : ℕ) (c : Dev nD) : sProp 𝕄 :=
  bigSep (Finset.univ.filter fun k : Fin 28 => a ≤ k.val ∧ k.val < n) fun k => wgPts c (inOrd k) fullShare.right (gathered X c)

/-- `n` departures confirmed, all copies started. -/
def left (c : Dev nD) (k : Fin 28) : sProp 𝕄 :=
  iprop(semVal (sndCell (outOrd k) c) 0 ∗ source X (outOrd k) c)
def gone (n : ℕ) (c : Dev nD) : sProp 𝕄 :=
  iprop(prog (fun k => sent c (outOrd k)) (left X c) n ∗ ∃ W, owes (c : Thread nD τ) 0 W)

theorem got_none (a : ℕ) (c : Dev nD) : (BI.emp : sProp 𝕄) ⊢ got X a a c := by
  unfold got
  rw [Finset.filter_false_of_mem (fun i _ => by omega), bigSep_empty]
theorem got_succ (a : ℕ) (k : Fin 28) (h : a ≤ k.val) (c : Dev nD) :
    got X a (k.val + 1) c = iprop(wgPts c (inOrd k) fullShare.right (gathered X c) ∗ got X a k.val c) := by
  unfold got
  rw [show (Finset.univ.filter fun j : Fin 28 => a ≤ j.val ∧ j.val < k.val + 1)
      = insert k (Finset.univ.filter fun j : Fin 28 => a ≤ j.val ∧ j.val < k.val) by
    ext j; simp only [Finset.mem_filter, Finset.mem_univ, true_and, Finset.mem_insert, Fin.ext_iff]; omega]
  rw [bigSep_insert (by simp)]; rfl

theorem halves (c : Dev nD) (i : Fin 28) (f : WG F) :
    (wgPts c i fullShare f : sProp 𝕄) = iprop(wgPts c i fullShare.left f ∗ wgPts c i fullShare.right f) :=
  BI.equiv_iff.mp ⟨(pointsTo_share (PosShare.mem_left_op_right fullShare)).1, (pointsTo_share (PosShare.mem_left_op_right fullShare)).2⟩

theorem outs_gone (c : Dev nD) : outs X 28 c ⊢ gone X 0 c := by
  unfold outs gone
  rw [prog_end, prog_zero, owed_end 28 (le_refl _)]
  rw [bigSep_univ_equiv outPerm (sent (F := F) c)]
  exact Entails.of_eq rfl

/-! ## The rules -/

section Rules
variable (K : GSem nD τ sig → ℕ) (c : Dev nD) {α : Type}

/-- Starting a copy of the first round. -/
theorem send_first (i : Fin 28) (hi : i.val < 12) {p : Dev nD} (hp : p = peer (dirOf i) c) {hsc} {hs} {hd} {hty}
    {k : PUnit → Prog (TpuEff nD τ sig (Elt F) Λ₀ .tc) α} {Q : α → sProp 𝕄} :
    iprop(known X K ∗ begun c ∗ outs X i.val c)
      ⊢ iprop((outs X (i.val + 1) c -∗ wp frame (wpE (defs₀ (F := F)) 𝒱₀ c none) Set.univ (k ⟨⟩) Q)
        -∗ wp frame (wpE (defs₀ (F := F)) 𝒱₀ c none) Set.univ
          (.op (.enqueueDma (wcQ i) (.remote (Dev.tc p) (wgQ i) (.dma (sndSem i)) hsc) (.dma (rcvSem i)) hs hd hty) k) Q) := by
  subst hp
  unfold outs
  iintro ⟨#HK, #HB, HP, ⟨%W, HO⟩⟩ Hk
  ihave HP' := (prog_step (toSend X c) (sent c) i) $$ HP
  icases HP' with ⟨Hi, Hback⟩
  unfold toSend
  rw [if_pos hi, source, if_pos hi]
  icases Hi with ⟨Ht1, Ht2, Hat, ⟨%f, Hd⟩, #Hr, Hs⟩
  iapply (Rounds.wp_send_pointsTo 𝒱₀ ER (sched X) (c : Thread nD τ) none (c' := (peer (dirOf i) c : Thread nD τ)) (src := wcQ i) (dst := wgQ i)
      (sS := .dma (sndSem i)) (sem := .dma (rcvSem i)) (q := shareOf (dirOf i)) (fs := X c) (κ₁ := K (sndCell i c)) (κ₂ := K (rcvCell i (peer (dirOf i) c)))
      (r₁ := 0) (r₂ := 0) (d₁ := 0) (d₂ := 0) (fd := f)
      (by rw [duties_snd]; exact Finset.mem_singleton_self _) (by rw [duties_rcv]; exact Finset.mem_singleton_self _)
      () () N rfl (amount_snd X c i 0) (amount_rcv X _ i 0) (owed (i.val + 1) c) (owed_succ i c) (W := W)
      (by rw [payload_snd, source, if_pos hi])
      (by rw [payload_rcv]; exact Entails.of_eq (pointsTo_congr (land_first X i hi c f)))) $$ [Hs Hd HO Ht1 Ht2]
  · isplitr; · iapply (known_inv X K (snd_mem i c)) $$ HK
    isplitr; · iapply (known_inv X K (rcv_mem i _)) $$ HK
    isplitl [Hs]; · iexact Hs
    isplitl [Hd]; · iexact Hd
    isplitl [HO]; · iexact HO
    isplitl [Ht1]; · iexact Ht1
    isplitr; · iapply (begun_snd i c) $$ HB
    isplitl [Ht2]; · iexact Ht2
    iexact Hr
  iintro ⟨Hc, HO⟩
  iapply Hk
  isplitr [HO]
  · iapply Hback
    unfold sent
    isplitl [Hat]; · iexact Hat
    iexact Hc
  · iexists _; iexact HO

/-- Starting a later copy: it reads what an earlier one brought. -/
theorem send_from (i : Fin 28) (hi : 12 ≤ i.val) {p : Dev nD} (hp : p = peer (dirOf i) c) {hsc} {hs} {hd} {hty}
    {k : PUnit → Prog (TpuEff nD τ sig (Elt F) Λ₀ .tc) α} {Q : α → sProp 𝕄} :
    iprop(known X K ∗ begun c ∗ outs X i.val c ∗ wgPts c (fromOf i) fullShare.left (gathered X c))
      ⊢ iprop((outs X (i.val + 1) c -∗ wp frame (wpE (defs₀ (F := F)) 𝒱₀ c none) Set.univ (k ⟨⟩) Q)
        -∗ wp frame (wpE (defs₀ (F := F)) 𝒱₀ c none) Set.univ
          (.op (.enqueueDma (wgQ (fromOf i)) (.remote (Dev.tc p) (wgQ i) (.dma (sndSem i)) hsc) (.dma (rcvSem i)) hs hd hty) k) Q) := by
  subst hp
  have hi' : ¬ i.val < 12 := Nat.not_lt.mpr hi
  unfold outs
  iintro ⟨#HK, #HB, ⟨HP, ⟨%W, HO⟩⟩, Hs⟩ Hk
  ihave HP' := (prog_step (toSend X c) (sent c) i) $$ HP
  icases HP' with ⟨Hi, Hback⟩
  unfold toSend
  icases Hi with ⟨Ht1, Ht2, Hat, ⟨%f, Hd⟩, #Hr, -⟩
  iapply (Rounds.wp_send_pointsTo 𝒱₀ ER (sched X) (c : Thread nD τ) none (c' := (peer (dirOf i) c : Thread nD τ)) (src := wgQ (fromOf i)) (dst := wgQ i)
      (sS := .dma (sndSem i)) (sem := .dma (rcvSem i)) (q := fullShare.left) (fs := gathered X c) (κ₁ := K (sndCell i c)) (κ₂ := K (rcvCell i (peer (dirOf i) c)))
      (r₁ := 0) (r₂ := 0) (d₁ := 0) (d₂ := 0) (fd := f)
      (by rw [duties_snd]; exact Finset.mem_singleton_self _) (by rw [duties_rcv]; exact Finset.mem_singleton_self _)
      () () N rfl (amount_snd X c i 0) (amount_rcv X _ i 0) (owed (i.val + 1) c) (owed_succ i c) (W := W)
      (by rw [payload_snd, source, if_neg hi'])
      (by rw [payload_rcv]; exact Entails.of_eq (pointsTo_congr (land_from X i hi c f)))) $$ [Hs Hd HO Ht1 Ht2]
  · isplitr; · iapply (known_inv X K (snd_mem i c)) $$ HK
    isplitr; · iapply (known_inv X K (rcv_mem i _)) $$ HK
    isplitl [Hs]; · iexact Hs
    isplitl [Hd]; · iexact Hd
    isplitl [HO]; · iexact HO
    isplitl [Ht1]; · iexact Ht1
    isplitr; · iapply (begun_snd i c) $$ HB
    isplitl [Ht2]; · iexact Ht2
    iexact Hr
  iintro ⟨Hc, HO⟩
  iapply Hk
  isplitr [HO]
  · iapply Hback
    unfold sent
    isplitl [Hat]; · iexact Hat
    iexact Hc
  · iexists _; iexact HO

theorem close_cell {g : GSem nD τ sig} (hg : g ∈ barCells ∪ dmaCells) :
    iprop(known X K ∗ atPos ER g (0 + 1) ∅ 0) ⊢ (|={Set.univ}=> semVal g 0 : sProp 𝕄) := by
  iintro ⟨#HK, Hat⟩
  iapply (Rounds.cell_close ER (sched X) (Set.mem_univ (K g)) id (duties_later X g))
  isplitr; · iapply (known_inv X K hg) $$ HK
  iexact Hat

/-- Waiting for arrival number `k`, with the copies before `n` started. -/
theorem wait_in (k : Fin 28) (a n : ℕ) (ha : a ≤ k.val) (hn : (inOrd k).val < n) {src : Memref sig .tc .vmem S256x256 .bf16} {hs} {hd}
    {kk : PUnit → Prog (TpuEff nD τ sig (Elt F) Λ₀ .tc) α} {Q : α → sProp 𝕄} :
    iprop(known X K ∗ levAts L lv ∗ outs X n c ∗ ins X k.val c ∗ got X a k.val c)
      ⊢ iprop(((outs X n c ∗ ins X (k.val + 1) c ∗ got X a (k.val + 1) c ∗ (if k.val < 16 then passed X c k else iprop(emp)))
          -∗ wp frame (wpE (defs₀ (F := F)) 𝒱₀ c none) Set.univ (kk ⟨⟩) Q)
        -∗ wp frame (wpE (defs₀ (F := F)) 𝒱₀ c none) Set.univ (.op (.waitDma2 (rcvSem (inOrd k)) src (wgQ (inOrd k)) hs hd) kk) Q) := by
  unfold outs ins
  iintro ⟨#HK, #Hlev, ⟨HP, ⟨%W, HO⟩⟩, HI, HG⟩ Hk
  ihave HI' := (prog_step (toTake c) (taken X c) k) $$ HI
  icases HI' with ⟨Hi, Hback⟩
  unfold toTake
  icases Hi with ⟨Hat, Hc⟩
  iapply (Rounds.wp_wait_rest_token 𝒱₀ ER (sched X) (c : Thread nD τ) none (κ := K (rcvCell (inOrd k) c))
      (wpE_waitDma2_eq (src := src) (dst := wgQ (inOrd k)) (hsrc := hs) (hdst := hd) 𝒱₀ (c : Thread nD τ) none Set.univ) (Set.mem_univ _) () (O := owed n c) (W := W) (R := 0) (m := 0) (T := ∅)
      ((Nat.zero_add _).trans (expect_rcv X c (inOrd k)).symm)) $$ [Hc HO Hat]
  · isplitr; · iapply (known_inv X K (rcv_mem _ c)) $$ HK
    isplitl [Hc]; · iexact Hc
    isplitl [HO]; · iexact HO
    isplitr; · iapply (mayWait_rcv (inOrd k) n hn c); iexact Hlev
    iexact Hat
  iintro ⟨HO, Hat, -, Hpay⟩
  ihave Hp := (Entails.of_eq ((rest_rcv X c (inOrd k)).trans (halves c (inOrd k) _))) $$ Hpay
  icases Hp with ⟨Hl, Hr⟩
  imod (close_cell X K (rcv_mem (inOrd k) c)) $$ [Hat] with Hv
  · isplitr; · iexact HK
    iexact Hat
  iapply Hk
  isplitl [HP HO]
  · isplitl [HP]; · iexact HP
    iexists _; iexact HO
  by_cases h16 : k.val < 16
  · rw [if_pos h16]
    isplitl [Hback Hv]
    · iapply Hback; unfold taken; rw [if_pos h16]
      isplitl [Hv]; · iexact Hv
      iempintro
    isplitl [HG Hr]
    · rw [got_succ X a k ha]
      isplitl [Hr]; · iexact Hr
      iexact HG
    unfold passed; iexact Hl
  · rw [if_neg h16]
    isplitl [Hback Hv Hl]
    · iapply Hback; unfold taken; rw [if_neg h16]
      isplitl [Hv]; · iexact Hv
      unfold passed; iexact Hl
    isplitl [HG Hr]
    · rw [got_succ X a k ha]
      isplitl [Hr]; · iexact Hr
      iexact HG
    iempintro

/-- Waiting for departure number `k`. -/
theorem wait_out (k : Fin 28) {src dst : Memref sig .tc .vmem S256x256 .bf16} (hN : dst.view.dmaCredit = N) {hs} {hd}
    {kk : PUnit → Prog (TpuEff nD τ sig (Elt F) Λ₀ .tc) α} {Q : α → sProp 𝕄} :
    iprop(known X K ∗ gone X k.val c)
      ⊢ iprop((gone X (k.val + 1) c -∗ wp frame (wpE (defs₀ (F := F)) 𝒱₀ c none) Set.univ (kk ⟨⟩) Q)
        -∗ wp frame (wpE (defs₀ (F := F)) 𝒱₀ c none) Set.univ (.op (.waitDma2 (sndSem (outOrd k)) src dst hs hd) kk) Q) := by
  unfold gone
  iintro ⟨#HK, HP, ⟨%W, HO⟩⟩ Hk
  ihave HP' := (prog_step (fun k => sent c (outOrd k)) (left X c) k) $$ HP
  icases HP' with ⟨Hi, Hback⟩
  unfold sent
  icases Hi with ⟨Hat, Hc⟩
  iapply (Rounds.wp_wait_rest_token 𝒱₀ ER (sched X) (c : Thread nD τ) none (κ := K (sndCell (outOrd k) c)) (k' := N)
      (fun K => (wpE_waitDma2_eq (src := src) (dst := dst) (hsrc := hs) (hdst := hd) 𝒱₀ (c : Thread nD τ) none Set.univ K).trans (by rw [hN])) (Set.mem_univ _) () (O := 0) (W := W) (R := 0) (m := 0) (T := ∅)
      ((Nat.zero_add _).trans (expect_snd X c (outOrd k)).symm)) $$ [Hc HO Hat]
  · isplitr; · iapply (known_inv X K (snd_mem _ c)) $$ HK
    isplitl [Hc]; · iexact Hc
    isplitl [HO]; · iexact HO
    isplitr; · rw [MayWait_zero]; iempintro
    iexact Hat
  iintro ⟨HO, Hat, -, Hpay⟩
  ihave Hp := (Entails.of_eq (rest_snd X c (outOrd k))) $$ Hpay
  imod (close_cell X K (snd_mem (outOrd k) c)) $$ [Hat] with Hv
  · isplitr; · iexact HK
    iexact Hat
  iapply Hk
  isplitr [HO]
  · iapply Hback; unfold left
    isplitl [Hv]; · iexact Hv
    iexact Hp
  · iexists _; iexact HO

end Rules

end Cert.Proof.Talk
-- ==== Proof.Start.lean ====
/-
  How a device starts and ends the exchange: its gathered buffer is dealt to the three neighbours as they are signalled,
  its own weights are lent to the first round's copies; at the end both buffers are whole again.
-/
module

public import proofs.«01_k».proof.Proof.Events

@[expose] public section

noncomputable section

namespace Cert.Proof.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → WC F)

/-! ## The gathered buffer as 28 quarters -/

theorem wgQ_univ : (Finset.univ.biUnion fun i : Fin 28 => (wgQ i).view.set) = (Finset.univ : Finset S7x2x512x256.Idx) := by
  ext x
  obtain ⟨i, -, h⟩ := wgQ_cover x
  simp only [Finset.mem_biUnion, Finset.mem_univ, true_and, iff_true]
  exact ⟨i, h⟩

theorem wg_blocks (c : Dev nD) (q : PosShare TreeShare) (f : WG F) :
    (((c : Thread nD τ).loc cc0_scratch0) ↦{q} f : sProp 𝕄) = bigSep Finset.univ fun i : Fin 28 => wgPts c i q f := by
  have h := pointsTo_biUnion (nD := nD) (τ := τ) (sig := sig) (Ix := Unit) (Val := Elt F) (Name := ℕ) (U := UU) (Lvl := ℕ) (ℓ := (c : Thread nD τ).loc cc0_scratch0) (q := q) (f := f)
    Finset.univ (fun i : Fin 28 => (wgQ i).view.set) (fun b _ b' _ h => wgQ_disjoint h)
  rw [wgQ_univ] at h
  exact h

/-- A family over the copies, by direction. -/
theorem by_direction (Φ : Fin 28 → sProp 𝕄) :
    bigSep Finset.univ Φ = bigSep Finset.univ fun d : Fin 3 => bigSep (Finset.univ.filter fun i : Fin 28 => dirOf i = d) Φ := by
  have h1 : ∀ d : Fin 3, bigSep (Finset.univ.filter fun i : Fin 28 => dirOf i = d) Φ
      = bigSep Finset.univ fun i : Fin 28 => if dirOf i = d then Φ i else iprop(emp) := fun d => bigSep_filter _ _ _
  rw [bigSep_congr (fun d _ => h1 d), bigSep_univ_comm]
  refine bigSep_congr fun i _ => ?_
  refine Eq.symm ((bigSep_filter Finset.univ (fun d : Fin 3 => dirOf i = d) (fun _ => Φ i)).symm.trans ?_)
  rw [Finset.filter_eq, if_pos (Finset.mem_univ _), bigSep_singleton]

/-! ## Signalling the neighbours -/

/-- `n` neighbours signalled: what the others are still to be given. -/
def signals (n : ℕ) (c : Dev nD) : sProp 𝕄 :=
  iprop(bigSep (Finset.univ.filter fun d : Fin 3 => n ≤ d.val) (fun d => iprop(dutyTok ER (barCell (peer d c)) 0 d ∗ barPay (peer d c) d))
    ∗ ∃ W, owes (c : Thread nD τ) (owed 0 c + owedBar n c) W)

theorem signals_start (c : Dev nD) (W : Waits sig Unit) :
    iprop(begun c ∗ bigSep Finset.univ (fun d : Fin 3 => dutyTok ER (barCell (peer d c)) 0 d)
      ∗ (∃ f, ((c : Thread nD τ).loc cc0_scratch0) ↦{fullShare} f) ∗ owes (c : Thread nD τ) (owedAll c) W) ⊢ (signals (F := F) 0 c : sProp 𝕄) := by
  unfold signals
  rw [Finset.filter_true_of_mem (fun d _ => Nat.zero_le _), bigSep_sep' Finset.univ (fun d : Fin 3 => dutyTok ER (barCell (peer d c)) 0 d)]
  iintro ⟨#HB, HT, ⟨%f, HS⟩, HO⟩
  isplitr [HO]
  · isplitl [HT]; · iexact HT
    have h : (bigSep Finset.univ (fun d : Fin 3 => barPay (F := F) (peer d c) d) : sProp 𝕄)
        = bigSep Finset.univ fun i : Fin 28 => iprop((∃ f, wgPts c i fullShare f) ∗ reached ER (rcvCell i c) 0) := by
      rw [by_direction]
      refine bigSep_congr fun d _ => ?_
      unfold barPay
      rw [peer_peer]
    rw [h, bigSep_sep' Finset.univ (fun i : Fin 28 => iprop(∃ f, wgPts c i fullShare f))]
    isplitl [HS]
    · have h2 : (((c : Thread nD τ).loc cc0_scratch0) ↦{fullShare} f : sProp 𝕄) ⊢ bigSep Finset.univ fun i : Fin 28 => iprop(∃ f, wgPts c i fullShare f) := by
        rw [wg_blocks]
        have h3 : ∀ i : Fin 28, (wgPts c i fullShare f : sProp 𝕄) ⊢ iprop(∃ f, wgPts c i fullShare f) := fun i => by
          iintro H; iexists f; iexact H
        exact bigSep_mono fun i _ => h3 i
      iapply h2 $$ HS
    · unfold begun; icases HB with ⟨-, HB⟩; iexact HB
  · iexists W; unfold owedAll; iexact HO

section Rules
variable (K : GSem nD τ sig → ℕ) (c : Dev nD) {α : Type}

theorem signal (d : Fin 3) {p : Dev nD} (hp : p = peer d c)
    {k : PUnit → Prog (TpuEff nD τ sig (Elt F) Λ₀ .tc) α} {Q : α → sProp 𝕄} :
    iprop(known X K ∗ signals d.val c)
      ⊢ iprop((signals (d.val + 1) c -∗ wp frame (wpE (defs₀ (F := F)) 𝒱₀ c none) Set.univ (k ⟨⟩) Q)
        -∗ wp frame (wpE (defs₀ (F := F)) 𝒱₀ c none) Set.univ (.op (.semSignal (p, .tc) barrier0 (1#32 : BitVec 32).toInt) k) Q) := by
  subst hp
  unfold signals
  have hins : ∀ Φ : Fin 3 → sProp 𝕄, bigSep (Finset.univ.filter fun j : Fin 3 => d.val ≤ j.val) Φ
      = iprop(Φ d ∗ bigSep (Finset.univ.filter fun j : Fin 3 => d.val + 1 ≤ j.val) Φ) := fun Φ => by
    rw [show (Finset.univ.filter fun j : Fin 3 => d.val ≤ j.val)
        = insert d (Finset.univ.filter fun j : Fin 3 => d.val + 1 ≤ j.val) by
      ext j; simp only [Finset.mem_filter, Finset.mem_univ, true_and, Finset.mem_insert, Fin.ext_iff]; omega,
      bigSep_insert (by simp)]
    rfl
  rw [hins]
  iintro ⟨#HK, ⟨⟨Ht, Hp⟩, HR⟩, ⟨%W, HO⟩⟩ Hk
  iapply (Rounds.wp_signal 𝒱₀ ER (sched X) (c : Thread nD τ) none (dst := ((peer d c, .tc) : Thread nD τ)) (sem := barrier0) (κ := K (barCell (peer d c))) (r := 0) (d := d) (k' := 1) (W := W) (O₀ := owed 0 c + owedBar d.val c)
      (by exact Finset.mem_univ d) (amount_bar X (peer d c) d) () (owed 0 c + owedBar (d.val + 1) c)
      (by rw [owedBar_succ d c, add_assoc])) $$ [Ht Hp HO]
  · isplitr; · iapply (known_inv X K (bar_mem (peer d c))) $$ HK
    isplitl [HO]; · iexact HO
    isplitl [Ht]; · iexact Ht
    isplitl [Hp]; · rw [payload_bar X (peer d c) d]; iexact Hp
    iapply (known_bar X K (peer d c)) $$ HK
  iintro HO
  iapply Hk
  isplitl [HR]; · iexact HR
  iexists W; iexact HO

/-- What a device holds of a copy before the barrier. -/
def kit (c : Dev nD) (i : Fin 28) : sProp 𝕄 :=
  iprop(dutyTok ER (sndCell i c) 0 0 ∗ dutyTok ER (rcvCell i (peer (dirOf i) c)) 0 0 ∗ atPos ER (sndCell i c) 0 ∅ 0)
/-- What the copies of the first round read. -/
def lent (c : Dev nD) : sProp 𝕄 := bigSep Finset.univ fun i : Fin 28 => if i.val < 12 then source X i c else iprop(emp)

theorem pass_barrier {k : PUnit → Prog (TpuEff nD τ sig (Elt F) Λ₀ .tc) α} {Q : α → sProp 𝕄} :
    iprop(known X K ∗ levAts L lv ∗ signals 3 c ∗ atPos ER (barCell c) 0 ∅ 0 ∗ cred (tallyAt (barCell c) () 3)
        ∗ bigSep Finset.univ (kit (F := F) c) ∗ lent X c)
      ⊢ iprop(((outs X 0 c ∗ semVal (barCell c) 0) -∗ wp frame (wpE (defs₀ (F := F)) 𝒱₀ c none) Set.univ (k ⟨⟩) Q)
        -∗ wp frame (wpE (defs₀ (F := F)) 𝒱₀ c none) Set.univ (.op (.semWait barrier0 (3#32 : BitVec 32).toInt) k) Q) := by
  unfold signals
  rw [owedBar_end, add_zero]
  iintro ⟨#HK, #Hlev, ⟨-, ⟨%W, HO⟩⟩, Hat, Hc, Hkit, Hlent⟩ Hk
  iapply (Rounds.wp_wait_rest_token 𝒱₀ ER (sched X) (c : Thread nD τ) none (κ := K (barCell c)) (k' := 3)
      (wpE_semWait_eq 𝒱₀ (c : Thread nD τ) none Set.univ) (Set.mem_univ _) () (O := owed 0 c) (W := W) (R := 0) (m := 0) (T := ∅)
      ((Nat.zero_add _).trans (expect_bar X c).symm)) $$ [Hc HO Hat]
  · isplitr; · iapply (known_inv X K (bar_mem c)) $$ HK
    isplitl [Hc]; · iexact Hc
    isplitl [HO]; · iexact HO
    isplitr; · iapply (mayWait_bar c); iexact Hlev
    iexact Hat
  iintro ⟨HO, Hat, -, Hpay⟩
  ihave Hp := (Entails.of_eq (rest_bar X c)) $$ Hpay
  imod (close_cell X K (bar_mem c)) $$ [Hat] with Hv
  · isplitr; · iexact HK
    iexact Hat
  iapply Hk
  isplitr [Hv]
  · unfold outs
    rw [prog_zero]
    isplitr [HO]
    · have h : (bigSep Finset.univ (fun d : Fin 3 => barPay (F := F) c d) : sProp 𝕄)
          = bigSep Finset.univ fun i : Fin 28 => iprop((∃ f, wgPts (peer (dirOf i) c) i fullShare f) ∗ reached ER (rcvCell i (peer (dirOf i) c)) 0) := by
        rw [by_direction]
        refine bigSep_congr fun d _ => bigSep_congr fun i hi => ?_
        rw [(Finset.mem_filter.mp hi).2]
      ihave Hp2 := (Entails.of_eq h) $$ Hp
      have h3 : iprop(bigSep Finset.univ (kit (F := F) c) ∗ lent X c
          ∗ bigSep Finset.univ fun i : Fin 28 => iprop((∃ f, wgPts (peer (dirOf i) c) i fullShare f) ∗ reached ER (rcvCell i (peer (dirOf i) c)) 0))
          ⊢ (bigSep Finset.univ (toSend X c) : sProp 𝕄) := by
        unfold lent
        rw [← bigSep_sep', ← bigSep_sep']
        have h4 : ∀ i : Fin 28, iprop(kit (F := F) c i ∗ (if i.val < 12 then source X i c else iprop(emp))
            ∗ (∃ f, wgPts (peer (dirOf i) c) i fullShare f) ∗ reached ER (rcvCell i (peer (dirOf i) c)) 0) ⊢ (toSend X c i : sProp 𝕄) := ?_
        · exact bigSep_mono fun i _ => h4 i
        intro i
        unfold kit toSend
        iintro ⟨⟨H1, H2, H3⟩, H4, H5, H6⟩
        isplitl [H1]; · iexact H1
        isplitl [H2]; · iexact H2
        isplitl [H3]; · iexact H3
        isplitl [H5]; · iexact H5
        isplitl [H6]; · iexact H6
        iexact H4
      iapply h3
      isplitl [Hkit]; · iexact Hkit
      isplitl [Hlent]; · iexact Hlent
      iexact Hp2
    · iexists _; iexact HO
  · iexact Hv

end Rules

/-! ## The weights: lent to the copies of the first round, and read meanwhile -/

theorem wcQ_dir_disjoint (d : Fin 3) : ∀ i ∈ Finset.univ.filter (fun i : Fin 28 => i.val < 12 ∧ dirOf i = d),
    ∀ j ∈ Finset.univ.filter (fun i : Fin 28 => i.val < 12 ∧ dirOf i = d), i ≠ j → Disjoint (wcQ i).view.set (wcQ j).view.set := by
  intro i hi j hj h
  have hne : ¬ (halfOf i = halfOf j ∧ rowOf i = rowOf j) := by
    revert d i j; decide
  rw [wcQ_set, wcQ_set, Finset.disjoint_left]
  intro x hx hy
  rw [Rect.mem_set_unit] at hx hy
  have a0 := hx 0; have a1 := hx 1; have b0 := hy 0; have b1 := hy 1
  simp [S1x256x256] at a0 a1 b0 b1
  refine hne ⟨Fin.ext ?_, Fin.ext ?_⟩ <;> omega

theorem wcQ_dir_univ (d : Fin 3) :
    ((Finset.univ.filter fun i : Fin 28 => i.val < 12 ∧ dirOf i = d).biUnion fun i : Fin 28 => (wcQ i).view.set) = (Finset.univ : Finset S2x512x256.Idx) := by
  ext x
  simp only [Finset.mem_biUnion, Finset.mem_univ, iff_true, Finset.mem_filter, true_and]
  have h1 : (x 1).val / 256 < 2 := by have := (x 1).isLt; change (x 1).val < 512 at this; omega
  have hs : ∀ (d : Fin 3) (h r : Fin 2), ∃ i : Fin 28, (i.val < 12 ∧ dirOf i = d) ∧ halfOf i = h ∧ rowOf i = r := by decide
  obtain ⟨i, hi, hh, hr⟩ := hs d (x 0) ⟨(x 1).val / 256, h1⟩
  refine ⟨i, hi, ?_⟩
  rw [wcQ_set, hh, hr, Rect.mem_set_unit]
  have h2 := (x 2).isLt
  intro a
  fin_cases a
  · simp [S1x256x256]
  · simp [S1x256x256]; omega
  · simpa [S1x256x256, S2x512x256] using h2

theorem wc_dir (c : Dev nD) (q : PosShare TreeShare) (f : WC F) (d : Fin 3) :
    (((c : Thread nD τ).loc cc0_stg1_0) ↦{q} f : sProp 𝕄)
      = bigSep (Finset.univ.filter fun i : Fin 28 => i.val < 12 ∧ dirOf i = d) fun i => wcPts c i q f := by
  have h := pointsTo_biUnion (nD := nD) (τ := τ) (sig := sig) (Ix := Unit) (Val := Elt F) (Name := ℕ) (U := UU) (Lvl := ℕ) (ℓ := (c : Thread nD τ).loc cc0_stg1_0) (q := q) (f := f)
    (Finset.univ.filter fun i : Fin 28 => i.val < 12 ∧ dirOf i = d) (fun i : Fin 28 => (wcQ i).view.set) (wcQ_dir_disjoint d)
  rw [wcQ_dir_univ] at h
  exact h

theorem split_share {ℓ : Loc nD τ sig} (q : PosShare TreeShare) (f : Buf (Elt F) ℓ) :
    (ℓ ↦{q} f : sProp 𝕄) = iprop((ℓ ↦{q.left} f) ∗ ℓ ↦{q.right} f) :=
  BI.equiv_iff.mp ⟨(pointsTo_share (PosShare.mem_left_op_right q)).1, (pointsTo_share (PosShare.mem_left_op_right q)).2⟩

theorem lent_eq (c : Dev nD) : (lent X c : sProp 𝕄) = bigSep (Finset.univ.filter fun i : Fin 28 => i.val < 12) fun i => source X i c := by
  exact (bigSep_filter Finset.univ (fun i : Fin 28 => i.val < 12) (fun i => source X i c)).symm

theorem wc_split (c : Dev nD) : (((c : Thread nD τ).loc cc0_stg1_0) ↦{fullShare} (X c) : sProp 𝕄)
    = iprop(lent X c ∗ ((c : Thread nD τ).loc cc0_stg1_0) ↦{fullShare.right.right} (X c)) := by
  have h : (lent X c : sProp 𝕄) = bigSep Finset.univ fun d : Fin 3 => ((c : Thread nD τ).loc cc0_stg1_0) ↦{shareOf d} (X c) := by
    unfold lent
    rw [by_direction]
    refine bigSep_congr fun d _ => ?_
    rw [wc_dir c _ _ d]
    refine (bigSep_filter _ (fun i : Fin 28 => i.val < 12) (fun i => source X i c)).symm.trans ?_
    rw [Finset.filter_filter]
    rw [show (Finset.univ.filter fun i : Fin 28 => dirOf i = d ∧ i.val < 12) = Finset.univ.filter fun i : Fin 28 => i.val < 12 ∧ dirOf i = d by
      ext i; simp only [Finset.mem_filter, Finset.mem_univ, true_and]; exact and_comm]
    refine bigSep_congr fun i hi => ?_
    have hi' := (Finset.mem_filter.mp hi).2
    rw [source, if_pos hi'.1, hi'.2]
  have h3 : ∀ Φ : Fin 3 → sProp 𝕄, bigSep Finset.univ Φ = iprop(Φ 0 ∗ Φ 1 ∗ Φ 2) := fun Φ => by
    rw [show (Finset.univ : Finset (Fin 3)) = insert 0 (insert 1 {2}) from rfl, bigSep_insert (by decide), bigSep_insert (by decide), bigSep_singleton]
    rfl
  rw [h, h3, show shareOf 0 = fullShare.left.left from rfl, show shareOf 1 = fullShare.left.right from rfl, show shareOf 2 = fullShare.right.left from rfl]
  rw [split_share fullShare, split_share fullShare.left, split_share fullShare.right]
  generalize (((c : Thread nD τ).loc cc0_stg1_0) ↦{fullShare.left.left} (X c) : sProp 𝕄) = A
  generalize (((c : Thread nD τ).loc cc0_stg1_0) ↦{fullShare.left.right} (X c) : sProp 𝕄) = B
  generalize (((c : Thread nD τ).loc cc0_stg1_0) ↦{fullShare.right.left} (X c) : sProp 𝕄) = C
  generalize (((c : Thread nD τ).loc cc0_stg1_0) ↦{fullShare.right.right} (X c) : sProp 𝕄) = D
  have h1 : iprop((A ∗ B) ∗ C ∗ D) ⊢ iprop((A ∗ B ∗ C) ∗ D) := by
    iintro ⟨⟨H1, H2⟩, H3, H4⟩
    isplitr [H4]
    · isplitl [H1]; · iexact H1
      isplitl [H2]; · iexact H2
      iexact H3
    · iexact H4
  have h2 : iprop((A ∗ B ∗ C) ∗ D) ⊢ iprop((A ∗ B) ∗ C ∗ D) := by
    iintro ⟨⟨H1, H2, H3⟩, H4⟩
    isplitl [H1 H2]
    · isplitl [H1]; · iexact H1
      iexact H2
    · isplitl [H3]; · iexact H3
      iexact H4
  exact BI.equiv_iff.mp ⟨h1, h2⟩

end Cert.Proof.Talk
-- ==== Proof.Steps.lean ====
/-
  The rules of the exchange in the form the program's run applies them: what is known for good as one hypothesis, the
  progress states one after another.
-/
module

public import proofs.«01_k».proof.Proof.Start

@[expose] public section

noncomputable section

namespace Cert.Proof.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → WC F) (K : GSem nD τ sig → ℕ) (c : Dev nD)

/-- What is known for good. -/
def rules : sProp 𝕄 := iprop(known X K ∗ begun c ∗ levAts L lv)
instance rules_persistent : BI.Persistent (rules X K c) := by unfold rules; infer_instance

/-- What the program leaves at the barrier. -/
def atBarrier : sProp 𝕄 :=
  iprop(atPos ER (barCell c) 0 ∅ 0 ∗ cred (tallyAt (barCell c) () 3) ∗ bigSep Finset.univ (kit (F := F) c) ∗ lent X c)

section
variable {α : Type} {k : PUnit → Prog (TpuEff nD τ sig (Elt F) Λ₀ .tc) α}

theorem do_signal (d : Fin 3) (n n' : ℕ) (hn : d.val = n) (hn' : d.val + 1 = n') {p : Dev nD} (hp : p = peer d c) {Q : α → sProp 𝕄} :
    (rules X K c : sProp 𝕄) ⊢ iprop(signals n c -∗ (signals n' c -∗ wp frame (wpE (defs₀ (F := F)) 𝒱₀ c none) Set.univ (k ⟨⟩) Q)
      -∗ wp frame (wpE (defs₀ (F := F)) 𝒱₀ c none) Set.univ (.op (.semSignal (p, .tc) barrier0 (1#32 : BitVec 32).toInt) k) Q) := by
  subst hn hn'
  unfold rules
  iintro ⟨#HK, -, -⟩ H Hk
  iapply (signal X K c d hp) $$ [H] Hk
  isplitr; · iexact HK
  iexact H

theorem do_barrier {Q : α → sProp 𝕄} :
    (rules X K c : sProp 𝕄) ⊢ iprop(signals 3 c -∗ atBarrier X c
      -∗ ((outs X 0 c ∗ semVal (barCell c) 0) -∗ wp frame (wpE (defs₀ (F := F)) 𝒱₀ c none) Set.univ (k ⟨⟩) Q)
      -∗ wp frame (wpE (defs₀ (F := F)) 𝒱₀ c none) Set.univ (.op (.semWait barrier0 (3#32 : BitVec 32).toInt) k) Q) := by
  unfold rules atBarrier
  iintro ⟨#HK, -, #HL⟩ H ⟨H1, H2, H3, H4⟩ Hk
  iapply (pass_barrier X K c) $$ [H H1 H2 H3 H4] Hk
  isplitr; · iexact HK
  isplitr; · iexact HL
  isplitl [H]; · iexact H
  isplitl [H1]; · iexact H1
  isplitl [H2]; · iexact H2
  isplitl [H3]; · iexact H3
  iexact H4

theorem do_send (i : Fin 28) (n n' : ℕ) (hn : i.val = n) (hn' : i.val + 1 = n') (hi : i.val < 12) {p : Dev nD} (hp : p = peer (dirOf i) c) {hsc} {hs} {hd} {hty} {Q : α → sProp 𝕄} :
    (rules X K c : sProp 𝕄) ⊢ iprop(outs X n c
      -∗ (outs X n' c -∗ wp frame (wpE (defs₀ (F := F)) 𝒱₀ c none) Set.univ (k ⟨⟩) Q)
      -∗ wp frame (wpE (defs₀ (F := F)) 𝒱₀ c none) Set.univ
          (.op (.enqueueDma (wcQ i) (.remote (Dev.tc p) (wgQ i) (.dma (sndSem i)) hsc) (.dma (rcvSem i)) hs hd hty) k) Q) := by
  subst hn hn'
  unfold rules
  iintro ⟨#HK, #HB, -⟩ H Hk
  iapply (send_first X K c i hi hp) $$ [H] Hk
  isplitr; · iexact HK
  isplitr; · iexact HB
  iexact H

/-- Passing on arrival number `j`. -/
theorem do_pass (i j : Fin 28) (n n' : ℕ) (hn : i.val = n) (hn' : i.val + 1 = n') (hi : 12 ≤ i.val) (hj : inOrd j = fromOf i) {p : Dev nD} (hp : p = peer (dirOf i) c) {hsc} {hs} {hd} {hty} {Q : α → sProp 𝕄} :
    (rules X K c : sProp 𝕄) ⊢ iprop(outs X n c -∗ passed X c j
      -∗ (outs X n' c -∗ wp frame (wpE (defs₀ (F := F)) 𝒱₀ c none) Set.univ (k ⟨⟩) Q)
      -∗ wp frame (wpE (defs₀ (F := F)) 𝒱₀ c none) Set.univ
          (.op (.enqueueDma (wgQ (fromOf i)) (.remote (Dev.tc p) (wgQ i) (.dma (sndSem i)) hsc) (.dma (rcvSem i)) hs hd hty) k) Q) := by
  subst hn hn'
  unfold rules passed
  rw [hj]
  iintro ⟨#HK, #HB, -⟩ H H' Hk
  iapply (send_from X K c i hi hp) $$ [H H'] Hk
  isplitr; · iexact HK
  isplitr; · iexact HB
  isplitl [H]; · iexact H
  iexact H'

theorem do_wait (j : Fin 28) (a n m m' : ℕ) (hm : j.val = m) (hm' : j.val + 1 = m') (ha : a ≤ j.val) (hn : (inOrd j).val < n) (h16 : j.val < 16)
    {src : Memref sig .tc .vmem S256x256 .bf16} {hs} {hd} {Q : α → sProp 𝕄} :
    (rules X K c : sProp 𝕄) ⊢ iprop(outs X n c -∗ ins X m c -∗ got X a m c
      -∗ ((outs X n c ∗ ins X m' c ∗ got X a m' c ∗ passed X c j)
          -∗ wp frame (wpE (defs₀ (F := F)) 𝒱₀ c none) Set.univ (k ⟨⟩) Q)
      -∗ wp frame (wpE (defs₀ (F := F)) 𝒱₀ c none) Set.univ (.op (.waitDma2 (rcvSem (inOrd j)) src (wgQ (inOrd j)) hs hd) k) Q) := by
  subst hm hm'
  unfold rules
  iintro ⟨#HK, -, #HL⟩ H H1 H2 Hk
  have h := wait_in X K c j a n ha hn (src := src) (hs := hs) (hd := hd) (kk := k) (Q := Q)
  rw [if_pos h16] at h
  iapply h $$ [H H1 H2] Hk
  isplitr; · iexact HK
  isplitr; · iexact HL
  isplitl [H]; · iexact H
  isplitl [H1]; · iexact H1
  iexact H2

theorem do_last_wait (j : Fin 28) (a n m m' : ℕ) (hm : j.val = m) (hm' : j.val + 1 = m') (ha : a ≤ j.val) (hn : (inOrd j).val < n) (h16 : ¬ j.val < 16)
    {src : Memref sig .tc .vmem S256x256 .bf16} {hs} {hd} {Q : α → sProp 𝕄} :
    (rules X K c : sProp 𝕄) ⊢ iprop(outs X n c -∗ ins X m c -∗ got X a m c
      -∗ ((outs X n c ∗ ins X m' c ∗ got X a m' c)
          -∗ wp frame (wpE (defs₀ (F := F)) 𝒱₀ c none) Set.univ (k ⟨⟩) Q)
      -∗ wp frame (wpE (defs₀ (F := F)) 𝒱₀ c none) Set.univ (.op (.waitDma2 (rcvSem (inOrd j)) src (wgQ (inOrd j)) hs hd) k) Q) := by
  subst hm hm'
  unfold rules
  iintro ⟨#HK, -, #HL⟩ H H1 H2 Hk
  have h := wait_in X K c j a n ha hn (src := src) (hs := hs) (hd := hd) (kk := k) (Q := Q)
  rw [if_neg h16] at h
  iapply h $$ [H H1 H2] [Hk]
  · isplitr; · iexact HK
    isplitr; · iexact HL
    isplitl [H]; · iexact H
    isplitl [H1]; · iexact H1
    iexact H2
  iintro ⟨H1, H2, H3, -⟩
  iapply Hk
  isplitl [H1]; · iexact H1
  isplitl [H2]; · iexact H2
  iexact H3

theorem do_left (j : Fin 28) (m m' : ℕ) (hm : j.val = m) (hm' : j.val + 1 = m') {src dst : Memref sig .tc .vmem S256x256 .bf16} (hN : dst.view.dmaCredit = N) {hs} {hd} {Q : α → sProp 𝕄} :
    (rules X K c : sProp 𝕄) ⊢ iprop(gone X m c
      -∗ (gone X m' c -∗ wp frame (wpE (defs₀ (F := F)) 𝒱₀ c none) Set.univ (k ⟨⟩) Q)
      -∗ wp frame (wpE (defs₀ (F := F)) 𝒱₀ c none) Set.univ (.op (.waitDma2 (sndSem (outOrd j)) src dst hs hd) k) Q) := by
  subst hm hm'
  unfold rules
  iintro ⟨#HK, -, -⟩ H Hk
  iapply (wait_out X K c j hN) $$ [H] Hk
  isplitr; · iexact HK
  iexact H
/-- Nothing has arrived yet. -/
theorem none_yet (a : ℕ) : (rules X K c : sProp 𝕄) ⊢ got X a a c := by
  iintro #-
  iapply (got_none X a c)
  iempintro
end

end Cert.Proof.Talk
-- ==== Proof.Joins.lean ====
/-
  What the arrivals have brought, read as rectangles of the gathered buffer, and the buffers made whole at the end.
-/
module

public import proofs.«01_k».proof.Proof.Steps

@[expose] public section

noncomputable section

namespace Cert.Proof.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → WC F) (c : Dev nD)

theorem slots_inb (s n : ℕ) (h : s + n ≤ 7) : ∀ a, (![s, 0, 0, 0] : Fin 4 → Nat) a + (![n, 2, 512, 256] : Fin 4 → Nat) a ≤ S7x2x512x256.size a := by
  intro a; fin_cases a
  · exact h
  · exact le_of_eq rfl
  · exact le_of_eq rfl
  · exact le_of_eq rfl

/-- Slots `s` to `s + n`. -/
abbrev slots (s n : ℕ) (h : s + n ≤ 7) : Rect S7x2x512x256 :=
  Rect.unit (s := S7x2x512x256) ![s, 0, 0, 0] ![n, 2, 512, 256] (slots_inb s n h)

theorem mem_slots (s n : ℕ) (h : s + n ≤ 7) (x : S7x2x512x256.Idx) : x ∈ (slots s n h).set ↔ s ≤ (x 0).val ∧ (x 0).val < s + n := by
  rw [Rect.mem_set_unit]
  constructor
  · intro H; exact H 0
  · intro H a
    have h1 := (x 1).isLt; have h2 := (x 2).isLt; have h3 := (x 3).isLt
    fin_cases a
    · exact H
    · exact ⟨Nat.zero_le _, by simpa [S7x2x512x256] using h1⟩
    · exact ⟨Nat.zero_le _, by simpa [S7x2x512x256] using h2⟩
    · exact ⟨Nat.zero_le _, by simpa [S7x2x512x256] using h3⟩

/-- A stretch of the gathered buffer, readable. -/
abbrev slotPts (s n : ℕ) (h : s + n ≤ 7) : sProp 𝕄 :=
  wgM.view.loc (c : Thread nD τ) ↦[wgM.view.setOn (slots s n h).set]{fullShare.right} (gathered X c)

theorem got_slots (a b s n : ℕ) (h : s + n ≤ 7)
    (hk : ∀ k : Fin 28, (a ≤ k.val ∧ k.val < b) ↔ (s ≤ (slotOf (inOrd k)).val ∧ (slotOf (inOrd k)).val < s + n)) :
    (got X a b c : sProp 𝕄) = slotPts X c s n h := by
  have h1 := pointsTo_biUnion (nD := nD) (τ := τ) (sig := sig) (Ix := Unit) (Val := Elt F) (Name := ℕ) (U := UU) (Lvl := ℕ)
    (ℓ := (c : Thread nD τ).loc cc0_scratch0) (q := fullShare.right) (f := gathered X c)
    (Finset.univ.filter fun k : Fin 28 => a ≤ k.val ∧ k.val < b) (fun k : Fin 28 => (wgQ (inOrd k)).view.set)
    (fun k _ k' _ hne => wgQ_disjoint (fun e => hne (inOrd_inj e)))
  have h2 : ((Finset.univ.filter fun k : Fin 28 => a ≤ k.val ∧ k.val < b).biUnion fun k => ((wgQ (inOrd k)).view.set : Finset S7x2x512x256.Idx))
      = wgM.view.setOn (slots s n h).set := by
    rw [show (wgM.view.setOn (slots s n h).set : Finset S7x2x512x256.Idx) = (slots s n h).set by
      ext x; exact View.mem_setOn (v := wgM.view) (M := (slots s n h).set) (x := x)]
    ext x
    simp only [Finset.mem_biUnion, Finset.mem_filter, Finset.mem_univ, true_and]
    rw [mem_slots]
    constructor
    · rintro ⟨k, hk', hx⟩
      rw [wgQ_set, mem_wgQ] at hx
      rw [hx.1.1]
      exact (hk k).mp hk'
    · intro hx
      obtain ⟨i, hs, hi⟩ := wgQ_cover x
      obtain ⟨k, rfl⟩ := inPerm.surjective i
      have e : inPerm k = inOrd k := rfl
      rw [e] at hs hi
      refine ⟨k, (hk k).mpr ?_, hi⟩
      rw [hs]; exact hx
  exact h1.symm.trans (by rw [h2])

theorem got_all : (iprop(got X 0 12 c ∗ got X 12 24 c ∗ got X 24 28 c) : sProp 𝕄)
    = bigSep Finset.univ fun i : Fin 28 => wgPts c i fullShare.right (gathered X c) := by
  rw [bigSep_univ_equiv inPerm (fun i : Fin 28 => wgPts c i fullShare.right (gathered X c))]
  unfold got
  have h : (Finset.univ : Finset (Fin 28)) = (Finset.univ.filter fun k : Fin 28 => 0 ≤ k.val ∧ k.val < 12)
      ∪ ((Finset.univ.filter fun k : Fin 28 => 12 ≤ k.val ∧ k.val < 24) ∪ (Finset.univ.filter fun k : Fin 28 => 24 ≤ k.val ∧ k.val < 28)) := by decide
  have h2 : ∀ Φ : Fin 28 → sProp 𝕄, bigSep Finset.univ Φ = iprop(bigSep (Finset.univ.filter fun k : Fin 28 => 0 ≤ k.val ∧ k.val < 12) Φ
      ∗ bigSep (Finset.univ.filter fun k : Fin 28 => 12 ≤ k.val ∧ k.val < 24) Φ ∗ bigSep (Finset.univ.filter fun k : Fin 28 => 24 ≤ k.val ∧ k.val < 28) Φ) := fun Φ => by
    refine (congrArg (fun S => bigSep S Φ) h).trans ?_
    rw [bigSep_union (by decide), bigSep_union (by decide)]
    rfl
  exact (h2 _).symm

/-- The halves passed on come back with the departures; with those kept, all the left halves. -/
theorem left_halves : (iprop((bigSep (Finset.univ.filter fun i : Fin 28 => ¬ i.val < 12) fun i => source X i c)
      ∗ bigSep Finset.univ fun k : Fin 28 => if k.val < 16 then iprop(emp) else passed X c k) : sProp 𝕄)
    = bigSep Finset.univ fun i : Fin 28 => wgPts c i fullShare.left (gathered X c) := by
  have h1 : (bigSep (Finset.univ.filter fun i : Fin 28 => ¬ i.val < 12) (fun i => source X i c) : sProp 𝕄)
      = bigSep (Finset.univ.filter fun i : Fin 28 => ¬ i.val < 12) (fun i => wgPts c (fromOf i) fullShare.left (gathered X c)) :=
    bigSep_congr fun i hi => by rw [source, if_neg (Finset.mem_filter.mp hi).2]
  have h2 : (bigSep (Finset.univ.filter fun i : Fin 28 => ¬ i.val < 12) (fun i => wgPts c (fromOf i) fullShare.left (gathered X c)) : sProp 𝕄)
      = bigSep ((Finset.univ.filter fun i : Fin 28 => ¬ i.val < 12).image fromOf) (fun i => wgPts c i fullShare.left (gathered X c)) :=
    (bigSep_image_of_injOn (s := Finset.univ.filter fun i : Fin 28 => ¬ i.val < 12) (f := fromOf) (by
      intro i hi j hj; revert i j; decide) (fun i => wgPts c i fullShare.left (gathered X c))).symm
  have h3 : (bigSep Finset.univ (fun k : Fin 28 => if k.val < 16 then iprop(emp) else passed X c k) : sProp 𝕄)
      = bigSep (Finset.univ.filter fun k : Fin 28 => ¬ k.val < 16) (fun k => passed X c k) := by
    refine Eq.symm ((bigSep_filter Finset.univ (fun k : Fin 28 => ¬ k.val < 16) (fun k => passed X c k)).trans (bigSep_congr fun k _ => ?_))
    by_cases h : k.val < 16
    · rw [if_pos h, if_neg (not_not.mpr h)]; rfl
    · rw [if_neg h, if_pos h]
  have h4 : (bigSep (Finset.univ.filter fun k : Fin 28 => ¬ k.val < 16) (fun k => passed X c k) : sProp 𝕄)
      = bigSep ((Finset.univ.filter fun k : Fin 28 => ¬ k.val < 16).image inOrd) (fun i => wgPts c i fullShare.left (gathered X c)) :=
    (bigSep_image_of_injOn (s := Finset.univ.filter fun k : Fin 28 => ¬ k.val < 16) (f := inOrd) (inOrd_inj.injOn)
      (fun i => wgPts c i fullShare.left (gathered X c))).symm
  rw [h1, h2, h3, h4]
  have h5 : (Finset.univ : Finset (Fin 28)) = (Finset.univ.filter fun i : Fin 28 => ¬ i.val < 12).image fromOf
      ∪ (Finset.univ.filter fun k : Fin 28 => ¬ k.val < 16).image inOrd := by decide
  refine Eq.symm ((congrArg (fun S => bigSep S _) h5).trans ?_)
  rw [bigSep_union (by decide)]
  rfl

theorem wg_whole : (((c : Thread nD τ).loc cc0_scratch0) ↦{fullShare} (gathered X c) : sProp 𝕄)
    = iprop((bigSep Finset.univ fun i : Fin 28 => wgPts c i fullShare.left (gathered X c))
      ∗ bigSep Finset.univ fun i : Fin 28 => wgPts c i fullShare.right (gathered X c)) := by
  rw [split_share, wg_blocks, wg_blocks]

/-- All semaphores of the exchange but the barrier back at zero. -/
def cleared : sProp 𝕄 :=
  iprop((bigSep Finset.univ fun i : Fin 28 => semVal (sndCell i c) 0) ∗ bigSep Finset.univ fun i : Fin 28 => semVal (rcvCell i c) 0)

/-- The end: everything whole again. -/
theorem finish : iprop(gone X 28 c ∗ ins X 28 c ∗ slotPts X c 0 3 (by decide) ∗ slotPts X c 3 3 (by decide) ∗ slotPts X c 6 1 (by decide)
      ∗ ((c : Thread nD τ).loc cc0_stg1_0) ↦{fullShare.right.right} (X c))
    ⊢ (iprop(cleared c ∗ (((c : Thread nD τ).loc cc0_scratch0) ↦{fullShare} (gathered X c))
      ∗ (((c : Thread nD τ).loc cc0_stg1_0) ↦{fullShare} (X c)) ∗ ∃ W, owes (c : Thread nD τ) 0 W) : sProp 𝕄) := by
  have g : (bigSep Finset.univ (left X c) : sProp 𝕄) = iprop((bigSep Finset.univ fun i : Fin 28 => semVal (sndCell i c) 0)
      ∗ lent X c ∗ bigSep (Finset.univ.filter fun i : Fin 28 => ¬ i.val < 12) fun i => source X i c) := by
    unfold left
    rw [bigSep_sep' Finset.univ (fun k : Fin 28 => semVal (sndCell (outOrd k) c) 0),
      bigSep_univ_equiv outPerm (fun i : Fin 28 => (semVal (sndCell i c) 0 : sProp 𝕄)), lent_eq]
    have e := (bigSep_univ_equiv outPerm (fun i : Fin 28 => source X i c)).symm.trans
      (bigSep_filter_split Finset.univ (fun i : Fin 28 => i.val < 12) (Φ := fun i => source X i c))
    exact congrArg (fun P => iprop((bigSep Finset.univ fun k : Fin 28 => semVal (sndCell (outPerm k) c) 0) ∗ P)) e
  have i : (bigSep Finset.univ (taken X c) : sProp 𝕄) = iprop((bigSep Finset.univ fun i : Fin 28 => semVal (rcvCell i c) 0)
      ∗ bigSep Finset.univ fun k : Fin 28 => if k.val < 16 then iprop(emp) else passed X c k) := by
    unfold taken
    rw [bigSep_sep' Finset.univ (fun k : Fin 28 => semVal (rcvCell (inOrd k) c) 0),
      bigSep_univ_equiv inPerm (fun i : Fin 28 => (semVal (rcvCell i c) 0 : sProp 𝕄))]
    rfl
  rw [← got_slots X c 0 12 0 3 (by decide) (by decide), ← got_slots X c 12 24 3 3 (by decide) (by decide),
    ← got_slots X c 24 28 6 1 (by decide) (by decide), wg_whole, ← got_all, ← left_halves, wc_split]
  unfold gone ins cleared
  rw [prog_end, prog_end, g, i]
  iintro ⟨⟨⟨H1, H2, H3⟩, HO⟩, ⟨H4, H5⟩, H6, H7, H8, H9⟩
  isplitl [H1 H4]
  · isplitl [H1]; · iexact H1
    iexact H4
  isplitl [H3 H5 H6 H7 H8]
  · isplitl [H3 H5]
    · isplitl [H3]; · iexact H3
      iexact H5
    isplitl [H6]; · iexact H6
    isplitl [H7]; · iexact H7
    iexact H8
  isplitl [H2 H9]
  · isplitl [H2]; · iexact H2
    iexact H9
  iexact HO

/-- A resource laid aside, so that the run looks at the other pieces of its buffer. -/
def aside (P : sProp 𝕄) : sProp 𝕄 := iprop(P ∗ emp)

theorem lay_aside (P : sProp 𝕄) : P ⊢ aside P := by
  unfold aside
  iintro H
  isplitl [H]; · iexact H
  iempintro

theorem take_back (P : sProp 𝕄) : aside P ⊢ P := by
  unfold aside
  iintro ⟨H, -⟩
  iexact H

end Cert.Proof.Talk
-- ==== Proof.Body.lean ====
module

public import proofs.«01_k».proof.Proof.Joins
public import proofs.«01_k».proof.Proof.Gen.KernelIdeal.Skeleton
public import proofs.«01_k».proof.Proof.Gen.KernelIdeal.Points

@[expose] public section

noncomputable section

namespace Cert.Proof.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → WC F)

abbrev xM : Memref sig .tc .vmem S2x128x512 .f32 := Memref.whole cc0_stg0_0
abbrev kM : Memref sig .tc .vmem S2x128x2048 .bf16 := Memref.whole cc0_stg2_0
abbrev vM : Memref sig .tc .vmem S2x128x2048 .bf16 := Memref.whole cc0_stg3_0
abbrev oM : Memref sig .tc .vmem S2x128x512 .f32 := Memref.whole cc0_stg4_0

abbrev body : Prog (TpuEff nD τ sig (Elt F) Λ₀ .tc) PUnit :=
  cc0_body xM (hstage0_0 0) wcM (hstage0_1 0) kM (hstage0_2 0) vM (hstage0_3 0) oM (hstage0_4 0) wgM (Memref.isWhole_whole _)
    cc0_scratch1 cc0_scratch2 cc0_scratch3 cc0_scratch4 cc0_scratch5 cc0_scratch6

variable (c : Dev nD)

set_option maxHeartbeats 0 in
set_option pp.maxSteps 120 in
def run (fx : xM.view.ty.Contents (Elt F)) (fk : kM.view.ty.Contents (Elt F)) (fv : vM.view.ty.Contents (Elt F)) (fo : oM.view.ty.Contents (Elt F)) :
    { r : oM.view.ty.Contents (Elt F) // ∀ (K : GSem nD τ sig → ℕ) (Q : PUnit → sProp 𝕄), iprop(rules X K c ∗ signals 0 c ∗ atBarrier X c ∗ ins X 0 c
        ∗ (xM.view.loc (c : Thread nD τ) ↦{fullShare} fx)
        ∗ (wcM.view.loc (c : Thread nD τ) ↦{fullShare.right.right} (X c))
        ∗ (kM.view.loc (c : Thread nD τ) ↦{fullShare} fk)
        ∗ (vM.view.loc (c : Thread nD τ) ↦{fullShare} fv)
        ∗ (oM.view.loc (c : Thread nD τ) ↦{fullShare} fo)
        ∗ ((cleared c ∗ semVal (barCell c) 0 ∗ (∃ W, owes (c : Thread nD τ) 0 W)
            ∗ (((c : Thread nD τ).loc cc0_scratch0) ↦{fullShare} (gathered X c))
            ∗ (xM.view.loc (c : Thread nD τ) ↦{fullShare} fx)
            ∗ (wcM.view.loc (c : Thread nD τ) ↦{fullShare} (X c))
            ∗ (kM.view.loc (c : Thread nD τ) ↦{fullShare} fk)
            ∗ (vM.view.loc (c : Thread nD τ) ↦{fullShare} fv)
            ∗ (oM.view.loc (c : Thread nD τ) ↦{fullShare} r)) -∗ Q ⟨⟩))
      ⊢ wp frame (wpE (defs₀ (F := F)) 𝒱₀ c none) Set.univ body Q } := by
  refine ⟨?_, fun K Q => ?_⟩
  case refine_2 =>
  unfold body
  simp -proj only [cc0_body_eq_skeleton]
  unfold cc0_body_skel
  simp -proj only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton]
  iintro ⟨#HR, Hsig, Hbar, Hi, Hx, Hwc, Hk, Hv, Hout, HQ⟩
  sl_exec
  iapply (do_signal X K c 0 0 1 rfl rfl (p := ⟨k0_dev1 c, k0_dev1_lt c⟩) (Fin.ext (by revert c; decide))) $$ HR Hsig; iintro Hsig
  sl_exec
  iapply (do_signal X K c 1 1 2 rfl rfl (p := ⟨k0_dev2 c, k0_dev2_lt c⟩) (Fin.ext (by revert c; decide))) $$ HR Hsig; iintro Hsig
  sl_exec
  iapply (do_signal X K c 2 2 3 rfl rfl (p := ⟨k0_dev3 c, k0_dev3_lt c⟩) (Fin.ext (by revert c; decide))) $$ HR Hsig; iintro Hsig
  sl_exec
  iapply (do_barrier X K c) $$ HR Hsig Hbar; iintro ⟨Ho, Hb⟩
  sl_exec
  iapply (do_send X K c 0 0 1 rfl rfl (by decide) (p := ⟨k0_dev4 c, k0_dev4_lt c⟩) (Fin.ext (by revert c; decide))) $$ HR Ho; iintro Ho
  sl_exec
  iapply (do_send X K c 1 1 2 rfl rfl (by decide) (p := ⟨k0_dev5 c, k0_dev5_lt c⟩) (Fin.ext (by revert c; decide))) $$ HR Ho; iintro Ho
  sl_exec
  iapply (do_send X K c 2 2 3 rfl rfl (by decide) (p := ⟨k0_dev6 c, k0_dev6_lt c⟩) (Fin.ext (by revert c; decide))) $$ HR Ho; iintro Ho
  sl_exec
  iapply (do_send X K c 3 3 4 rfl rfl (by decide) (p := ⟨k0_dev7 c, k0_dev7_lt c⟩) (Fin.ext (by revert c; decide))) $$ HR Ho; iintro Ho
  sl_exec
  iapply (do_send X K c 4 4 5 rfl rfl (by decide) (p := ⟨k0_dev8 c, k0_dev8_lt c⟩) (Fin.ext (by revert c; decide))) $$ HR Ho; iintro Ho
  sl_exec
  iapply (do_send X K c 5 5 6 rfl rfl (by decide) (p := ⟨k0_dev9 c, k0_dev9_lt c⟩) (Fin.ext (by revert c; decide))) $$ HR Ho; iintro Ho
  sl_exec
  iapply (do_send X K c 6 6 7 rfl rfl (by decide) (p := ⟨k0_dev10 c, k0_dev10_lt c⟩) (Fin.ext (by revert c; decide))) $$ HR Ho; iintro Ho
  sl_exec
  iapply (do_send X K c 7 7 8 rfl rfl (by decide) (p := ⟨k0_dev11 c, k0_dev11_lt c⟩) (Fin.ext (by revert c; decide))) $$ HR Ho; iintro Ho
  sl_exec
  iapply (do_send X K c 8 8 9 rfl rfl (by decide) (p := ⟨k0_dev12 c, k0_dev12_lt c⟩) (Fin.ext (by revert c; decide))) $$ HR Ho; iintro Ho
  sl_exec
  iapply (do_send X K c 9 9 10 rfl rfl (by decide) (p := ⟨k0_dev13 c, k0_dev13_lt c⟩) (Fin.ext (by revert c; decide))) $$ HR Ho; iintro Ho
  sl_exec
  iapply (do_send X K c 10 10 11 rfl rfl (by decide) (p := ⟨k0_dev14 c, k0_dev14_lt c⟩) (Fin.ext (by revert c; decide))) $$ HR Ho; iintro Ho
  sl_exec
  iapply (do_send X K c 11 11 12 rfl rfl (by decide) (p := ⟨k0_dev15 c, k0_dev15_lt c⟩) (Fin.ext (by revert c; decide))) $$ HR Ho; iintro Ho
  ihave Hg := (none_yet X K c 0) $$ HR
  sl_exec
  iapply (do_wait X K c 0 0 12 0 1 rfl rfl (by decide) (by decide) (by decide)) $$ HR Ho Hi Hg; iintro ⟨Ho, Hi, Hg, Hp⟩
  sl_exec
  iapply (do_pass X K c 12 0 12 13 rfl rfl (by decide) rfl (p := ⟨k0_dev16 c, k0_dev16_lt c⟩) (Fin.ext (by revert c; decide))) $$ HR Ho Hp; iintro Ho
  sl_exec
  iapply (do_wait X K c 1 0 13 1 2 rfl rfl (by decide) (by decide) (by decide)) $$ HR Ho Hi Hg; iintro ⟨Ho, Hi, Hg, Hp⟩
  sl_exec
  iapply (do_pass X K c 13 1 13 14 rfl rfl (by decide) rfl (p := ⟨k0_dev17 c, k0_dev17_lt c⟩) (Fin.ext (by revert c; decide))) $$ HR Ho Hp; iintro Ho
  sl_exec
  iapply (do_wait X K c 2 0 14 2 3 rfl rfl (by decide) (by decide) (by decide)) $$ HR Ho Hi Hg; iintro ⟨Ho, Hi, Hg, Hp⟩
  sl_exec
  iapply (do_pass X K c 14 2 14 15 rfl rfl (by decide) rfl (p := ⟨k0_dev18 c, k0_dev18_lt c⟩) (Fin.ext (by revert c; decide))) $$ HR Ho Hp; iintro Ho
  sl_exec
  iapply (do_wait X K c 3 0 15 3 4 rfl rfl (by decide) (by decide) (by decide)) $$ HR Ho Hi Hg; iintro ⟨Ho, Hi, Hg, Hp⟩
  sl_exec
  iapply (do_pass X K c 15 3 15 16 rfl rfl (by decide) rfl (p := ⟨k0_dev19 c, k0_dev19_lt c⟩) (Fin.ext (by revert c; decide))) $$ HR Ho Hp; iintro Ho
  sl_exec
  iapply (do_wait X K c 4 0 16 4 5 rfl rfl (by decide) (by decide) (by decide)) $$ HR Ho Hi Hg; iintro ⟨Ho, Hi, Hg, Hp⟩
  sl_exec
  iapply (do_pass X K c 16 4 16 17 rfl rfl (by decide) rfl (p := ⟨k0_dev20 c, k0_dev20_lt c⟩) (Fin.ext (by revert c; decide))) $$ HR Ho Hp; iintro Ho
  sl_exec
  iapply (do_wait X K c 5 0 17 5 6 rfl rfl (by decide) (by decide) (by decide)) $$ HR Ho Hi Hg; iintro ⟨Ho, Hi, Hg, Hp⟩
  sl_exec
  iapply (do_pass X K c 17 5 17 18 rfl rfl (by decide) rfl (p := ⟨k0_dev21 c, k0_dev21_lt c⟩) (Fin.ext (by revert c; decide))) $$ HR Ho Hp; iintro Ho
  sl_exec
  iapply (do_wait X K c 6 0 18 6 7 rfl rfl (by decide) (by decide) (by decide)) $$ HR Ho Hi Hg; iintro ⟨Ho, Hi, Hg, Hp⟩
  sl_exec
  iapply (do_pass X K c 18 6 18 19 rfl rfl (by decide) rfl (p := ⟨k0_dev22 c, k0_dev22_lt c⟩) (Fin.ext (by revert c; decide))) $$ HR Ho Hp; iintro Ho
  sl_exec
  iapply (do_wait X K c 7 0 19 7 8 rfl rfl (by decide) (by decide) (by decide)) $$ HR Ho Hi Hg; iintro ⟨Ho, Hi, Hg, Hp⟩
  sl_exec
  iapply (do_pass X K c 19 7 19 20 rfl rfl (by decide) rfl (p := ⟨k0_dev23 c, k0_dev23_lt c⟩) (Fin.ext (by revert c; decide))) $$ HR Ho Hp; iintro Ho
  sl_exec
  iapply (do_wait X K c 8 0 20 8 9 rfl rfl (by decide) (by decide) (by decide)) $$ HR Ho Hi Hg; iintro ⟨Ho, Hi, Hg, Hp⟩
  sl_exec
  iapply (do_pass X K c 20 8 20 21 rfl rfl (by decide) rfl (p := ⟨k0_dev24 c, k0_dev24_lt c⟩) (Fin.ext (by revert c; decide))) $$ HR Ho Hp; iintro Ho
  sl_exec
  iapply (do_wait X K c 9 0 21 9 10 rfl rfl (by decide) (by decide) (by decide)) $$ HR Ho Hi Hg; iintro ⟨Ho, Hi, Hg, Hp⟩
  sl_exec
  iapply (do_pass X K c 21 9 21 22 rfl rfl (by decide) rfl (p := ⟨k0_dev25 c, k0_dev25_lt c⟩) (Fin.ext (by revert c; decide))) $$ HR Ho Hp; iintro Ho
  sl_exec
  iapply (do_wait X K c 10 0 22 10 11 rfl rfl (by decide) (by decide) (by decide)) $$ HR Ho Hi Hg; iintro ⟨Ho, Hi, Hg, Hp⟩
  sl_exec
  iapply (do_pass X K c 22 10 22 23 rfl rfl (by decide) rfl (p := ⟨k0_dev26 c, k0_dev26_lt c⟩) (Fin.ext (by revert c; decide))) $$ HR Ho Hp; iintro Ho
  sl_exec
  iapply (do_wait X K c 11 0 23 11 12 rfl rfl (by decide) (by decide) (by decide)) $$ HR Ho Hi Hg; iintro ⟨Ho, Hi, Hg, Hp⟩
  sl_exec
  iapply (do_pass X K c 23 11 23 24 rfl rfl (by decide) rfl (p := ⟨k0_dev27 c, k0_dev27_lt c⟩) (Fin.ext (by revert c; decide))) $$ HR Ho Hp; iintro Ho
  ihave Hs0 := (Entails.of_eq (got_slots X c 0 12 0 3 (by decide) (by decide))) $$ Hg
  ihave Hg := (none_yet X K c 12) $$ HR
  sl_exec
  iapply (do_wait X K c 12 12 24 12 13 rfl rfl (by decide) (by decide) (by decide)) $$ HR Ho Hi Hg; iintro ⟨Ho, Hi, Hg, Hp⟩
  sl_exec
  iapply (do_pass X K c 24 12 24 25 rfl rfl (by decide) rfl (p := ⟨k0_dev28 c, k0_dev28_lt c⟩) (Fin.ext (by revert c; decide))) $$ HR Ho Hp; iintro Ho
  sl_exec
  iapply (do_wait X K c 13 12 25 13 14 rfl rfl (by decide) (by decide) (by decide)) $$ HR Ho Hi Hg; iintro ⟨Ho, Hi, Hg, Hp⟩
  sl_exec
  iapply (do_pass X K c 25 13 25 26 rfl rfl (by decide) rfl (p := ⟨k0_dev29 c, k0_dev29_lt c⟩) (Fin.ext (by revert c; decide))) $$ HR Ho Hp; iintro Ho
  sl_exec
  iapply (do_wait X K c 14 12 26 14 15 rfl rfl (by decide) (by decide) (by decide)) $$ HR Ho Hi Hg; iintro ⟨Ho, Hi, Hg, Hp⟩
  sl_exec
  iapply (do_pass X K c 26 14 26 27 rfl rfl (by decide) rfl (p := ⟨k0_dev30 c, k0_dev30_lt c⟩) (Fin.ext (by revert c; decide))) $$ HR Ho Hp; iintro Ho
  sl_exec
  iapply (do_wait X K c 15 12 27 15 16 rfl rfl (by decide) (by decide) (by decide)) $$ HR Ho Hi Hg; iintro ⟨Ho, Hi, Hg, Hp⟩
  sl_exec
  iapply (do_pass X K c 27 15 27 28 rfl rfl (by decide) rfl (p := ⟨k0_dev31 c, k0_dev31_lt c⟩) (Fin.ext (by revert c; decide))) $$ HR Ho Hp; iintro Ho
  sl_exec
  iapply (do_last_wait X K c 16 12 28 16 17 rfl rfl (by decide) (by decide) (by decide)) $$ HR Ho Hi Hg; iintro ⟨Ho, Hi, Hg⟩
  sl_exec
  iapply (do_last_wait X K c 17 12 28 17 18 rfl rfl (by decide) (by decide) (by decide)) $$ HR Ho Hi Hg; iintro ⟨Ho, Hi, Hg⟩
  sl_exec
  iapply (do_last_wait X K c 18 12 28 18 19 rfl rfl (by decide) (by decide) (by decide)) $$ HR Ho Hi Hg; iintro ⟨Ho, Hi, Hg⟩
  sl_exec
  iapply (do_last_wait X K c 19 12 28 19 20 rfl rfl (by decide) (by decide) (by decide)) $$ HR Ho Hi Hg; iintro ⟨Ho, Hi, Hg⟩
  sl_exec
  iapply (do_last_wait X K c 20 12 28 20 21 rfl rfl (by decide) (by decide) (by decide)) $$ HR Ho Hi Hg; iintro ⟨Ho, Hi, Hg⟩
  sl_exec
  iapply (do_last_wait X K c 21 12 28 21 22 rfl rfl (by decide) (by decide) (by decide)) $$ HR Ho Hi Hg; iintro ⟨Ho, Hi, Hg⟩
  sl_exec
  iapply (do_last_wait X K c 22 12 28 22 23 rfl rfl (by decide) (by decide) (by decide)) $$ HR Ho Hi Hg; iintro ⟨Ho, Hi, Hg⟩
  sl_exec
  iapply (do_last_wait X K c 23 12 28 23 24 rfl rfl (by decide) (by decide) (by decide)) $$ HR Ho Hi Hg; iintro ⟨Ho, Hi, Hg⟩
  ihave Hs0 := (lay_aside _) $$ Hs0
  ihave Hs1 := (Entails.of_eq (got_slots X c 12 24 3 3 (by decide) (by decide))) $$ Hg
  ihave Hg := (none_yet X K c 24) $$ HR
  sl_exec
  iapply (do_last_wait X K c 24 24 28 24 25 rfl rfl (by decide) (by decide) (by decide)) $$ HR Ho Hi Hg; iintro ⟨Ho, Hi, Hg⟩
  sl_exec
  iapply (do_last_wait X K c 25 24 28 25 26 rfl rfl (by decide) (by decide) (by decide)) $$ HR Ho Hi Hg; iintro ⟨Ho, Hi, Hg⟩
  sl_exec
  iapply (do_last_wait X K c 26 24 28 26 27 rfl rfl (by decide) (by decide) (by decide)) $$ HR Ho Hi Hg; iintro ⟨Ho, Hi, Hg⟩
  sl_exec
  iapply (do_last_wait X K c 27 24 28 27 28 rfl rfl (by decide) (by decide) (by decide)) $$ HR Ho Hi Hg; iintro ⟨Ho, Hi, Hg⟩
  ihave Hs1 := (lay_aside _) $$ Hs1
  ihave Hs2 := (Entails.of_eq (got_slots X c 24 28 6 1 (by decide) (by decide))) $$ Hg
  ihave Ho := (outs_gone X c) $$ Ho
  sl_exec
  iapply (do_left X K c 0 0 1 rfl rfl (dst := wcQ 0) rfl) $$ HR Ho; iintro Ho
  sl_exec
  iapply (do_left X K c 1 1 2 rfl rfl (dst := wcQ 3) rfl) $$ HR Ho; iintro Ho
  sl_exec
  iapply (do_left X K c 2 2 3 rfl rfl (dst := wcQ 6) rfl) $$ HR Ho; iintro Ho
  sl_exec
  iapply (do_left X K c 3 3 4 rfl rfl (dst := wcQ 9) rfl) $$ HR Ho; iintro Ho
  sl_exec
  iapply (do_left X K c 4 4 5 rfl rfl (dst := wcQ 1) rfl) $$ HR Ho; iintro Ho
  sl_exec
  iapply (do_left X K c 5 5 6 rfl rfl (dst := wcQ 4) rfl) $$ HR Ho; iintro Ho
  sl_exec
  iapply (do_left X K c 6 6 7 rfl rfl (dst := wcQ 7) rfl) $$ HR Ho; iintro Ho
  sl_exec
  iapply (do_left X K c 7 7 8 rfl rfl (dst := wcQ 10) rfl) $$ HR Ho; iintro Ho
  sl_exec
  iapply (do_left X K c 8 8 9 rfl rfl (dst := wcQ 2) rfl) $$ HR Ho; iintro Ho
  sl_exec
  iapply (do_left X K c 9 9 10 rfl rfl (dst := wcQ 5) rfl) $$ HR Ho; iintro Ho
  sl_exec
  iapply (do_left X K c 10 10 11 rfl rfl (dst := wcQ 8) rfl) $$ HR Ho; iintro Ho
  sl_exec
  iapply (do_left X K c 11 11 12 rfl rfl (dst := wcQ 11) rfl) $$ HR Ho; iintro Ho
  sl_exec
  iapply (do_left X K c 12 12 13 rfl rfl (dst := wgQ 2) rfl) $$ HR Ho; iintro Ho
  sl_exec
  iapply (do_left X K c 13 13 14 rfl rfl (dst := wgQ 5) rfl) $$ HR Ho; iintro Ho
  sl_exec
  iapply (do_left X K c 14 14 15 rfl rfl (dst := wgQ 8) rfl) $$ HR Ho; iintro Ho
  sl_exec
  iapply (do_left X K c 15 15 16 rfl rfl (dst := wgQ 11) rfl) $$ HR Ho; iintro Ho
  sl_exec
  iapply (do_left X K c 16 16 17 rfl rfl (dst := wgQ 0) rfl) $$ HR Ho; iintro Ho
  sl_exec
  iapply (do_left X K c 17 17 18 rfl rfl (dst := wgQ 3) rfl) $$ HR Ho; iintro Ho
  sl_exec
  iapply (do_left X K c 18 18 19 rfl rfl (dst := wgQ 6) rfl) $$ HR Ho; iintro Ho
  sl_exec
  iapply (do_left X K c 19 19 20 rfl rfl (dst := wgQ 9) rfl) $$ HR Ho; iintro Ho
  sl_exec
  iapply (do_left X K c 20 20 21 rfl rfl (dst := wgQ 1) rfl) $$ HR Ho; iintro Ho
  sl_exec
  iapply (do_left X K c 21 21 22 rfl rfl (dst := wgQ 4) rfl) $$ HR Ho; iintro Ho
  sl_exec
  iapply (do_left X K c 22 22 23 rfl rfl (dst := wgQ 7) rfl) $$ HR Ho; iintro Ho
  sl_exec
  iapply (do_left X K c 23 23 24 rfl rfl (dst := wgQ 10) rfl) $$ HR Ho; iintro Ho
  sl_exec
  iapply (do_left X K c 24 24 25 rfl rfl (dst := wgQ 13) rfl) $$ HR Ho; iintro Ho
  sl_exec
  iapply (do_left X K c 25 25 26 rfl rfl (dst := wgQ 16) rfl) $$ HR Ho; iintro Ho
  sl_exec
  iapply (do_left X K c 26 26 27 rfl rfl (dst := wgQ 20) rfl) $$ HR Ho; iintro Ho
  sl_exec
  iapply (do_left X K c 27 27 28 rfl rfl (dst := wgQ 23) rfl) $$ HR Ho; iintro Ho
  sl_exec
  ihave Hs0 := (take_back _) $$ Hs0
  ihave Hs1 := (take_back _) $$ Hs1
  ihave Hfin := (finish X c) $$ [Ho Hi Hs0 Hs1 Hs2 Hwc]
  · isplitl [Ho]; · iexact Ho
    isplitl [Hi]; · iexact Hi
    isplitl [Hs0]; · iexact Hs0
    isplitl [Hs1]; · iexact Hs1
    isplitl [Hs2]; · iexact Hs2
    iexact Hwc
  icases Hfin with ⟨H1, H2, H3, H4⟩
  rw [wp_ret]
  imodintro
  iapply HQ
  isplitl [H1]; · iexact H1
  isplitl [Hb]; · iexact Hb
  isplitl [H4]; · iexact H4
  isplitl [H2]; · iexact H2
  isplitl [Hx]; · iexact Hx
  isplitl [H3]; · iexact H3
  isplitl [Hk]; · iexact Hk
  isplitl [Hv]; · iexact Hv
  iexact Hout

end Cert.Proof.Talk
-- ==== Proof.Region.lean ====
/-
  The proof data of the kernel's launch: what its windows hold, what the state is before and after its one body run, and
  how its own semaphores enter the schedule.
-/
module

public import proofs.«01_k».proof.Proof.Body
public import proofs.«01_k».proof.Proof.Gen.KernelIdeal.Regions
public import proofs.«01_k».proof.Proof.Gen.KernelIdeal.Points

@[expose] public section

noncomputable section

namespace Cert.Proof.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat BodyObligation)

/-! ## What the windows hold -/

variable (m : (ℓ : Loc nD τ sig) → Buf (Elt F) ℓ)

abbrev valX (c : Dev nD) : xM.view.ty.Contents (Elt F) := (win0_0.blk (0 : Fin 1)).view.read (Elt F) (V5 m c main_arg0)
abbrev valW (c : Dev nD) : WC F := (win0_1.blk (0 : Fin 1)).view.read (Elt F) (V5 m c main_v9)
abbrev valK (c : Dev nD) : kM.view.ty.Contents (Elt F) := (win0_2.blk (0 : Fin 1)).view.read (Elt F) (V5 m c main_v27)
abbrev valV (c : Dev nD) : vM.view.ty.Contents (Elt F) := (win0_3.blk (0 : Fin 1)).view.read (Elt F) (V5 m c main_v29)

/-- What the body leaves in the output's buffer. -/
def outVal (X : Dev nD → WC F) (c : Dev nD) (fx : xM.view.ty.Contents (Elt F)) (fk : kM.view.ty.Contents (Elt F))
    (fv : vM.view.ty.Contents (Elt F)) : oM.view.ty.Contents (Elt F) := run.sl.r_123 X c fx fk fv
theorem run_out (X : Dev nD → WC F) (c : Dev nD) (fx : xM.view.ty.Contents (Elt F)) (fk : kM.view.ty.Contents (Elt F))
    (fv : vM.view.ty.Contents (Elt F)) (fo : oM.view.ty.Contents (Elt F)) : (run X c fx fk fv fo).1 = outVal X c fx fk fv := by
  have hz : (![0, 0, 0] : Fin 3 → Nat) = fun _ => 0 := by funext i; fin_cases i <;> rfl
  unfold run outVal
  dsimp only
  rw [View.writes_singleton]
  exact Memref.write_access_unit_zero_univ (Elt F) cc0_stg4_0 hz _ fo _
def result (c : Dev nD) : oM.view.ty.Contents (Elt F) := outVal (valW m) c (valX m c) (valK m c) (valV m c)

/-! ## The state around the body -/

/-- Before the program's signals and copies: the schedule in force, the device's rights in it, its arrivals to take. -/
def ready (c : Dev nD) : sProp 𝕄 :=
  iprop(∃ K, rules (valW m) K c ∗ bigSep Finset.univ (fun d : Fin 3 => dutyTok ER (barCell (peer d c)) 0 d)
    ∗ atPos ER (barCell c) 0 ∅ 0 ∗ cred (tallyAt (barCell c) () 3) ∗ bigSep Finset.univ (kit (F := F) c) ∗ ins (valW m) 0 c)
def scratch (c : Dev nD) : sProp 𝕄 := iprop(∃ f : WG F, ((c : Thread nD τ).loc cc0_scratch0) ↦{fullShare} f)

def dat (c : Dev nD) : Pipeline.Dat τ (Elt F) Unit ℕ UU ℕ cfg0 c where
  A w := V5 m c (Proc.devRef .tc (Pipeline.arrRef spec0 w))
  after w _ := match w with
    | 0 => valX m c | 1 => valW m c | 2 => valK m c | 3 => valV m c | 4 => result m c
    | ⟨_ + 5, h⟩ => absurd h (Nat.not_lt.2 (Nat.le_add_left _ _))
  Φ t := if t.val = 0 then iprop(ready m c ∗ scratch c ∗ ∃ r, prngReg c r)
    else iprop(cleared c ∗ semVal (barCell c) 0 ∗ scratch c ∗ ∃ r, prngReg c r)
  q _ := fullShare
  owed t := if t.val = 0 then owedAll c else 0

def pdats : (p : Fin 1) → (c : Dev nD) → Pipeline.Dat τ (Elt F) Unit ℕ UU ℕ (cfgs p) c := fun | 0 => dat m

theorem owed_zero (c : Dev nD) : (dat m c).owed 0 = owedAll c := by dsimp only [dat]; exact if_pos rfl
theorem owed_first (c : Dev nD) : (dat m c).owed t0_0.castSucc = owedAll c := by dsimp only [dat]; exact if_pos rfl
theorem owed_last (c : Dev nD) : (dat m c).owed (Fin.last _) = 0 := by
  dsimp only [dat]; exact if_neg (by rw [Fin.val_last]; decide)
theorem owed_done (c : Dev nD) : (dat m c).owed t0_0.succ = 0 := by dsimp only [dat]; exact if_neg (by decide)

theorem state_zero (c : Dev nD) : (dat m c).Φ 0 = iprop(ready m c ∗ scratch c ∗ ∃ r, prngReg c r) := by dsimp only [dat]; exact if_pos rfl
theorem state_first (c : Dev nD) : (dat m c).Φ t0_0.castSucc = iprop(ready m c ∗ scratch c ∗ ∃ r, prngReg c r) := by dsimp only [dat]; exact if_pos rfl
theorem state_last (c : Dev nD) : (dat m c).Φ (Fin.last _) = iprop(cleared c ∗ semVal (barCell c) 0 ∗ scratch c ∗ ∃ r, prngReg c r) := by
  dsimp only [dat]; exact if_neg (by rw [Fin.val_last]; decide)
theorem state_done (c : Dev nD) : (dat m c).Φ t0_0.succ = iprop(cleared c ∗ semVal (barCell c) 0 ∗ scratch c ∗ ∃ r, prngReg c r) := by
  dsimp only [dat]; exact if_neg (by decide)

/-! ## The body -/

theorem owns_elim (c : Dev nD) (b : Ref sig .tc) {v w : b.ty.Contents (Elt F)} (h : v = w) :
    (owns c (Memref.whole b) fullShare v : sProp 𝕄) ⊢ ((c : Thread nD τ).loc b) ↦{fullShare} w := by
  subst h
  unfold owns; simp only [Memref.view_whole, View.read_whole, View.set_whole]
  iintro ⟨%f, %h, H⟩; subst h; iexact H
theorem owns_intro (c : Dev nD) (b : Ref sig .tc) (v : b.ty.Contents (Elt F)) :
    (((c : Thread nD τ).loc b) ↦{fullShare} v : sProp 𝕄) ⊢ owns c (Memref.whole b) fullShare v := by
  unfold owns; simp only [Memref.view_whole, View.read_whole, View.set_whole]
  iintro H; iexists v; isplitr; · ipureintro; rfl
  iexact H

theorem before_0 (c : Dev nD) (d) : (dat m c).before (0 : Fin 5) t0_0 d = valX m c := by
  unfold Dat.before; rw [if_pos (fetch0_0 t0_0)]; rfl
theorem before_1 (c : Dev nD) (d) : (dat m c).before (1 : Fin 5) t0_0 d = valW m c := by
  unfold Dat.before; rw [if_pos (fetch0_1 t0_0)]; rfl
theorem before_2 (c : Dev nD) (d) : (dat m c).before (2 : Fin 5) t0_0 d = valK m c := by
  unfold Dat.before; rw [if_pos (fetch0_2 t0_0)]; rfl
theorem before_3 (c : Dev nD) (d) : (dat m c).before (3 : Fin 5) t0_0 d = valV m c := by
  unfold Dat.before; rw [if_pos (fetch0_3 t0_0)]; rfl

theorem debt_elim (c : Dev nD) : (dat m c).owesAt () t0_0.castSucc ⊢ (iprop(∃ W, owes (c : Thread nD τ) (owedAll c) W) : sProp 𝕄) := by
  unfold Dat.owesAt Pipeline.owesWithin; rw [owed_first]
  iintro ⟨%W, -, HO⟩; iexists W; iexact HO
theorem debt_paid (c : Dev nD) : (iprop(∃ W, owes (c : Thread nD τ) 0 W) : sProp 𝕄) ⊢ (dat m c).owesAt () t0_0.succ := by
  unfold Dat.owesAt Pipeline.owesWithin; rw [owed_done]
  iintro ⟨%W, HO⟩; iexists W
  isplitr; · ipureintro; exact fun _ _ => Or.inl trivial
  iexact HO

/-- The body's run between the two states, the staging buffers in hand. -/
theorem body_run (c : Dev nD) (fo : oM.view.ty.Contents (Elt F)) {Q : PUnit → sProp 𝕄} :
    iprop((ready m c ∗ scratch c ∗ ∃ r, prngReg c r) ∗ (∃ W, owes (c : Thread nD τ) (owedAll c) W)
      ∗ ((c : Thread nD τ).loc cc0_stg0_0 ↦{fullShare} valX m c) ∗ ((c : Thread nD τ).loc cc0_stg1_0 ↦{fullShare} valW m c)
      ∗ ((c : Thread nD τ).loc cc0_stg2_0 ↦{fullShare} valK m c) ∗ ((c : Thread nD τ).loc cc0_stg3_0 ↦{fullShare} valV m c)
      ∗ ((c : Thread nD τ).loc cc0_stg4_0 ↦{fullShare} fo)
      ∗ (((cleared c ∗ semVal (barCell c) 0 ∗ scratch c ∗ ∃ r, prngReg c r) ∗ (∃ W, owes (c : Thread nD τ) 0 W)
          ∗ ((c : Thread nD τ).loc cc0_stg0_0 ↦{fullShare} valX m c) ∗ ((c : Thread nD τ).loc cc0_stg1_0 ↦{fullShare} valW m c)
          ∗ ((c : Thread nD τ).loc cc0_stg2_0 ↦{fullShare} valK m c) ∗ ((c : Thread nD τ).loc cc0_stg3_0 ↦{fullShare} valV m c)
          ∗ ((c : Thread nD τ).loc cc0_stg4_0 ↦{fullShare} result m c)) -∗ Q ⟨⟩))
      ⊢ wp frame (wpE defs₀ 𝒱₀ c none) Set.univ (body (F := F)) Q := by
  unfold ready
  iintro ⟨⟨⟨%K, #HR, Hd, Hb, Hcr, Hk, Hin⟩, Hs, Hp⟩, ⟨%W, HO⟩, Hx, Hw, Hkk, Hv, Ho, HQ⟩
  ihave Hw2 := (Entails.of_eq (wc_split (valW m) c)) $$ Hw
  icases Hw2 with ⟨Hl, Hw⟩
  iapply ((run (valW m) c (valX m c) (valK m c) (valV m c) fo).2 K Q)
  isplitr; · iexact HR
  isplitl [Hd Hs HO]
  · iapply (signals_start c W)
    unfold rules
    icases HR with ⟨-, #HB, -⟩
    isplitr; · iexact HB
    isplitl [Hd]; · iexact Hd
    isplitl [Hs]; · unfold scratch; iexact Hs
    iexact HO
  isplitl [Hb Hcr Hk Hl]
  · unfold atBarrier
    isplitl [Hb]; · iexact Hb
    isplitl [Hcr]; · iexact Hcr
    isplitl [Hk] <;> iassumption
  isplitl [Hin]; · iexact Hin
  isplitl [Hx]; · iexact Hx
  isplitl [Hw]; · iexact Hw
  isplitl [Hkk]; · iexact Hkk
  isplitl [Hv]; · iexact Hv
  isplitl [Ho]; · iexact Ho
  rw [run_out]
  iintro ⟨Hc, Hb, HO, Hs, Hx, Hw, Hkk, Hv, Ho⟩
  iapply HQ
  isplitr [HO Hx Hw Hkk Hv Ho]
  · isplitl [Hc]; · iexact Hc
    isplitl [Hb]; · iexact Hb
    isplitl [Hs]; · unfold scratch; iexists _; iexact Hs
    iexact Hp
  isplitl [HO]; · iexact HO
  isplitl [Hx]; · iexact Hx
  isplitl [Hw]; · iexact Hw
  isplitl [Hkk]; · iexact Hkk
  isplitl [Hv]; · iexact Hv
  iexact Ho

theorem entry_eq : (defs₀ (F := F)) .tc cfg0.body (cfg0.bodyArgs t0_0 (cfg0.slots t0_0)) = bodyAt0 t0_0 := rfl
theorem body_eq : (bodyAt0 (F := F) t0_0) = body := rfl

theorem body_ok (c : Dev nD) : BodyObligation (dat m c) defs₀ 𝒱₀ () Set.univ := fun t => by
  obtain rfl := fin_N0 t
  rw [entry_eq, body_eq, bigSep_W0, bigSep_W0, state_first, state_done]
  iintro ⟨HS, HO, ⟨%d0, Hx⟩, ⟨%d1, Hw⟩, ⟨%d2, Hk⟩, ⟨%d3, Hv⟩, ⟨%d4, Ho⟩⟩
  iapply (body_run m c ((dat m c).before (4 : Fin 5) t0_0 d4))
  isplitl [HS]; · iexact HS
  isplitl [HO]; · iapply (debt_elim m c) $$ HO
  isplitl [Hx]; · iapply (owns_elim c cc0_stg0_0 (before_0 m c d0)) $$ Hx
  isplitl [Hw]; · iapply (owns_elim c cc0_stg1_0 (before_1 m c d1)) $$ Hw
  isplitl [Hk]; · iapply (owns_elim c cc0_stg2_0 (before_2 m c d2)) $$ Hk
  isplitl [Hv]; · iapply (owns_elim c cc0_stg3_0 (before_3 m c d3)) $$ Hv
  isplitl [Ho]; · iapply (owns_elim c cc0_stg4_0 rfl) $$ Ho
  iintro ⟨HS, HO, Hx, Hw, Hk, Hv, Ho⟩
  isplitl [HS]; · iexact HS
  isplitl [HO]; · iapply (debt_paid m c) $$ HO
  isplitl [Hx]; · iapply (owns_intro c cc0_stg0_0 (valX m c)) $$ Hx
  isplitl [Hw]; · iapply (owns_intro c cc0_stg1_0 (valW m c)) $$ Hw
  isplitl [Hk]; · iapply (owns_intro c cc0_stg2_0 (valK m c)) $$ Hk
  isplitl [Hv]; · iapply (owns_intro c cc0_stg3_0 (valV m c)) $$ Hv
  iapply (owns_intro c cc0_stg4_0 (result m c)) $$ Ho

/-! ## The kernel's own semaphores -/

theorem zip {ι : Type} [Fintype ι] (P Q : ι → sProp 𝕄) :
    (iprop(bigSep Finset.univ P ∗ bigSep Finset.univ Q) : sProp 𝕄) ⊢ bigSep Finset.univ (fun i => iprop(P i ∗ Q i)) :=
  Entails.of_eq (bigSep_sep' _ _ _).symm
theorem unzip {ι : Type} [Fintype ι] (P Q : ι → sProp 𝕄) :
    bigSep Finset.univ (fun i => iprop(P i ∗ Q i)) ⊢ (iprop(bigSep Finset.univ P ∗ bigSep Finset.univ Q) : sProp 𝕄) :=
  Entails.of_eq (bigSep_sep' _ _ _)

/-- The semaphores the copies complete on: at their senders, at their receivers. -/
def osem (k : Fin 2 × Fin 28) : SemLoc sig := .dma (if k.1 = 0 then sndSem k.2 else rcvSem k.2)

theorem own_scoped : ∀ k, (osem k).isScoped .tc = true := by decide
theorem osem_inj : Function.Injective osem := by
  rintro ⟨a, i⟩ ⟨b, j⟩ h
  have h' : (if a = 0 then sndSem i else rcvSem i) = if b = 0 then sndSem j else rcvSem j := SemLoc.dma.inj h
  fin_cases a <;> fin_cases b
  · exact congrArg (Prod.mk (0 : Fin 2)) (sndSem_inj h')
  · exact absurd h' (snd_ne_rcv i j)
  · exact absurd h'.symm (snd_ne_rcv j i)
  · exact congrArg (Prod.mk (1 : Fin 2)) (rcvSem_inj h')
theorem own_facts : Pipeline.OwnSemFacts spec0 osem := ⟨own_scoped, osem_inj, by decide⟩

theorem own_zero (c : Dev nD) : (Pipeline.ownSems0 osem c : sProp 𝕄)
    = iprop(bigSep Finset.univ (fun i : Fin 28 => semVal (sndCell i c) 0) ∗ bigSep Finset.univ (fun i : Fin 28 => semVal (rcvCell i c) 0)) := by
  unfold Pipeline.ownSems0
  rw [bigSep_univ_prod]
  exact BI.bigSep_fin_two (fun a : Fin 2 => (bigSep Finset.univ fun i : Fin 28 => semVal ((c : Thread nD τ), osem (a, i)) 0 : sProp 𝕄))

/-- What the launch leaves each device of the schedule. -/
def held₀ (c : Dev nD) : sProp 𝕄 :=
  iprop((∃ K, known (valW m) K) ∗ bigSep Finset.univ (fun d : Fin 3 => dutyTok ER (barCell (peer d c)) 0 d)
    ∗ atPos ER (barCell c) 0 ∅ 0 ∗ cred (tallyAt (barCell c) () 3)
    ∗ bigSep Finset.univ (fun i : Fin 28 => iprop(dutyTok ER (sndCell i c) 0 0 ∗ dutyTok ER (rcvCell i (peer (dirOf i) c)) 0 0))
    ∗ bigSep Finset.univ (fun i : Fin 28 => cred (tallyAt (rcvCell i c) () N))
    ∗ bigSep Finset.univ (fun i : Fin 28 => openTok ER (sndCell i c)) ∗ bigSep Finset.univ (fun i : Fin 28 => openTok ER (rcvCell i c)))

theorem open_all (K : GSem nD τ sig → ℕ) (g : Fin 28 → GSem nD τ sig) (hg : ∀ i, g i ∈ barCells ∪ dmaCells) :
    (iprop(known (valW m) K ∗ bigSep Finset.univ (fun i => openTok ER (g i)) ∗ bigSep Finset.univ (fun i => semVal (g i) 0)) : sProp 𝕄)
      ⊢ |={Set.univ}=> iprop(bigSep Finset.univ (fun i => atPos ER (g i) 0 ∅ 0) ∗ bigSep Finset.univ (fun i => reached ER (g i) 0)) := by
  have h1 (i : Fin 28) : (iprop(known (valW m) K ∗ (openTok ER (g i) ∗ semVal (g i) 0)) : sProp 𝕄)
      ⊢ |={Set.univ}=> iprop(atPos ER (g i) 0 ∅ 0 ∗ reached ER (g i) 0) := by
    iintro ⟨#HK, Ho, Hs⟩
    iapply (Rounds.cell_open ER (sched (valW m)) (g := g i) (Set.mem_univ (K (g i))))
    isplitr; · iapply (known_inv (valW m) K (hg i)); iexact HK
    isplitl [Ho] <;> iassumption
  iintro ⟨#HK, Ho, Hs⟩
  ihave H := (show (iprop(known (valW m) K ∗ bigSep Finset.univ (fun i => iprop(openTok ER (g i) ∗ semVal (g i) 0))) : sProp 𝕄)
      ⊢ |={Set.univ}=> bigSep Finset.univ (fun i => iprop(atPos ER (g i) 0 ∅ 0 ∗ reached ER (g i) 0)) from
    (bigSep_with_persistent (fun i _ => h1 i)).trans (BI.bigSep_fupd Finset.univ _)) $$ [Ho Hs]
  · isplitr; · iexact HK
    iapply zip
    isplitl [Ho] <;> iassumption
  imod H with H
  imodintro
  iapply unzip
  iexact H

theorem make_ready (c : Dev nD) : iprop(held₀ m c ∗ Pipeline.ownSems0 osem c ∗ levAts L lv) ⊢ (|={Set.univ}=> ready m c : sProp 𝕄) := by
  rw [own_zero]
  unfold held₀ ready rules begun ins
  iintro ⟨⟨⟨%K, #HK⟩, Hd, Hb, Hcr, Hk, Hrc, Ho1, Ho2⟩, ⟨Hs1, Hs2⟩, #HL⟩
  imod (open_all m K (fun i => sndCell i c) (fun i => snd_mem i c)) $$ [Ho1 Hs1] with ⟨Ha1, #Hr1⟩
  · isplitr; · iexact HK
    isplitl [Ho1] <;> iassumption
  imod (open_all m K (fun i => rcvCell i c) (fun i => rcv_mem i c)) $$ [Ho2 Hs2] with ⟨Ha2, #Hr2⟩
  · isplitr; · iexact HK
    isplitl [Ho2] <;> iassumption
  imodintro
  iexists K
  isplitr
  · isplitr; · iexact HK
    isplitr
    · isplitr; · iexact Hr1
      iexact Hr2
    iexact HL
  isplitl [Hd]; · iexact Hd
  isplitl [Hb]; · iexact Hb
  isplitl [Hcr]; · iexact Hcr
  isplitl [Hk Ha1]
  · have h : (bigSep Finset.univ (kit (F := F) c) : sProp 𝕄)
        = bigSep Finset.univ (fun i : Fin 28 => iprop((dutyTok ER (sndCell i c) 0 0 ∗ dutyTok ER (rcvCell i (peer (dirOf i) c)) 0 0) ∗ atPos ER (sndCell i c) 0 ∅ 0)) :=
      bigSep_congr fun i _ => (BI.equiv_iff.mp ⟨BI.sep_assoc, BI.sep_assoc'⟩).symm
    rw [h]
    iapply zip
    isplitl [Hk] <;> iassumption
  rw [prog_zero]
  have h : (bigSep Finset.univ (toTake (F := F) c) : sProp 𝕄)
      = bigSep Finset.univ (fun i : Fin 28 => iprop(atPos ER (rcvCell i c) 0 ∅ 0 ∗ cred (tallyAt (rcvCell i c) () N))) :=
    (bigSep_univ_equiv inPerm (fun i : Fin 28 => (iprop(atPos ER (rcvCell i c) 0 ∅ 0 ∗ cred (tallyAt (rcvCell i c) () N)) : sProp 𝕄))).symm
  rw [h]
  iapply zip
  isplitl [Ha2] <;> iassumption

end Cert.Proof.Talk
-- ==== Proof.Item.lean ====
/-
  The launch: every cell of the exchange enters the schedule, the rights are dealt to the devices, the host operations and
  the kernel's launch run in order; from it the run of the whole program on all devices.
-/
module

public import proofs.«01_k».proof.Proof.Region
public import Idealize.ShloMosaic.Lib.Pipeline.RegionTalk

@[expose] public section

noncomputable section

namespace Cert.Proof.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat BodyObligation)

variable (m : (ℓ : Loc nD τ sig) → Buf (Elt F) ℓ) (ρ : Dev nD → PrngReg)

/-! ## The kernel's launch as one item of the program -/

/-- What the kernel's launch leaves in its result array; every other buffer as it was. -/
def final (c : Dev nD) : Buf (Elt F) ((c : Thread nD τ).loc main_v30) := (dat m c).arrAt (4 : Fin 5) cfg0.N
def left₀ : Outs (F := F) := fun _ r c => if h : r = main_v30 then h ▸ final m c else V5 m c r
theorem left_out (c : Dev nD) : left₀ m 6 main_v30 c = final m c := by unfold left₀; rw [dif_pos rfl]

abbrev arrs : Finset (DevRef τ sig) := Pipeline.arrRefs (τ := τ) (pcfgs (F := F) 0).spec
abbrev others : Finset (DevRef τ sig) := Pipeline.ucRefs τ sig \ arrs (F := F)
theorem arrs_sub : arrs (F := F) ⊆ Pipeline.ucRefs τ sig := Pipeline.arrRefs_sub_ucRefs spec0 (by decide)

theorem V6_out (c : Dev nD) : V6 m (left₀ m) c (Proc.devRef .tc main_v30) = final m c := by
  unfold V6; rw [Function.update_self]; exact left_out m c
theorem V6_else (c : Dev nD) (b : DevRef τ sig) (h : b ≠ Proc.devRef .tc main_v30) : V6 m (left₀ m) c b = V5 m c b :=
  Function.update_of_ne h _ _

theorem array_in (c : Dev nD) (w : Fin 5) (h : w ≠ 4) (n : Nat) : (dat m c).arrAt w n = (dat m c).A w := by
  have : (cfg0.win w).isOut = false := by revert w; decide
  exact (dat m c).arrAt_in w this n

theorem entry_at (c : Dev nD) (w : Fin 5) : (dat m c).arrAt w 0 = V5 m c (Proc.devRef .tc (Pipeline.arrRef spec0 w)) := rfl
theorem exit_at (c : Dev nD) (w : Fin 5) : (dat m c).arrAt w cfg0.N = V6 m (left₀ m) c (Proc.devRef .tc (Pipeline.arrRef spec0 w)) := by
  by_cases h : w = 4
  · subst h; exact (V6_out m c).symm
  · rw [array_in m c w h]
    refine (V6_else m c _ ?_).symm
    revert w; decide

theorem cut (c : Dev nD) (g : GSem nD τ sig) (u : Unit) (h : 0 < owedAll c g u) : u ∈ L g ∧ (0 : ℕ) < lv g u := by
  unfold owedAll at h
  rw [Pi.add_apply, Finsupp.add_apply] at h
  rcases Nat.add_pos_iff_pos_or_pos.mp h with h | h
  · obtain ⟨i, -, rfl⟩ := owed_pos h
    exact ⟨by rw [L_tc]; exact Finset.mem_singleton_self _, by rw [lv_rcv]; omega⟩
  · by_contra hne
    refine absurd h (Nat.not_lt.mpr (Nat.le_of_eq ?_))
    unfold owedBar
    rw [Finset.sum_apply, Finsupp.finset_sum_apply]
    refine Finset.sum_eq_zero fun d _ => ?_
    rw [tallyAt_apply, if_neg]
    rintro ⟨rfl, -⟩
    exact hne ⟨by rw [L_tc]; exact Finset.mem_singleton_self _, by rw [lv_bar]; omega⟩
theorem cut_at (c : Dev nD) (t : Fin (cfg0.N + 1)) (g : GSem nD τ sig) (u : Unit) (h : 0 < (dat m c).owed t g u) :
    u ∈ L g ∧ (0 : ℕ) < lv g u := by
  have e : (dat m c).owed t = if t.val = 0 then owedAll c else 0 := rfl
  rw [e] at h
  split at h
  · exact cut c g u h
  · exact absurd h (Nat.lt_irrefl 0)

theorem staging_level (c : Dev nD) : ∀ (w : Fin 5) (s : Fin (spec0 w).nbuf), role (.dma ((spec0 w).sem s)) = .other := by decide

theorem no_held (c : Dev nD) (W : Valuation τ sig (Elt F)) : (StableHlo.held (c : Thread nD τ) ∅ W : sProp 𝕄) = BI.emp := by
  unfold StableHlo.held; exact BI.bigSep_empty

theorem enter (c : Dev nD) :
    iprop(Pipeline.scopedRest spec0 c ∗ (∃ r, prngReg c r) ∗ StableHlo.held (c.tc : Thread nD τ) ∅ (V5 m c) ∗ ready m c) ⊢ (dat m c).Φ 0 := by
  rw [state_zero, scopedRest0_eq]
  iintro ⟨Hs, Hp, -, HR⟩
  isplitl [HR]; · iexact HR
  isplitl [Hs]; · unfold scratch; iexact Hs
  iexact Hp
theorem leave (c : Dev nD) : (dat m c).Φ (Fin.last _)
    ⊢ iprop(Pipeline.scopedRest spec0 c ∗ (∃ r, prngReg c r) ∗ StableHlo.held (c.tc : Thread nD τ) ∅ (V6 m (left₀ m) c)
      ∗ Pipeline.ownSems0 osem c ∗ (semVal (barCell c) 0 : sProp 𝕄)) := by
  rw [state_last, scopedRest0_eq, own_zero]
  unfold cleared scratch
  iintro ⟨Hc, Hb, Hs, Hp⟩
  isplitl [Hs]; · iexact Hs
  isplitl [Hp]; · iexact Hp
  isplitr; · rw [no_held]; iempintro
  isplitl [Hc]; · iexact Hc
  iexact Hb

set_option backward.isDefEq.respectTransparency.types false in
def launchItem : Pipeline.RegionSeg (pcfgs (F := F)) adm (pdats m) () defs₀ 𝒱₀ L lv 0 :=
  Pipeline.RegionSeg.ofTalk (pcfgs (F := F)) adm (pdats m) () defs₀ 𝒱₀ L lv 0 osem own_facts
    ∅ (others (F := F)) (Finset.empty_subset _) (launch0.toP) rfl (fun c => (body_ok m c).loose)
    (fun _ => 0) owedAll (fun c => (owed_zero m c).trans (zero_add _).symm) (owed_last m) (fun _ => rfl)
    (fun c w => by
      show (dat m c).share w = fullShare
      unfold Dat.share; split <;> rfl)
    (V5 m) (V6 m (left₀ m))
    (fun c b hb => V6_else m c b (by
      rintro rfl
      rw [Finset.sdiff_empty, Finset.mem_sdiff] at hb
      exact hb.2 (Finset.mem_map_of_mem _ (Finset.mem_image_of_mem _ (Finset.mem_univ (4 : Fin 5))))))
    (held₀ m) (fun c => semVal (barCell c) 0) (ready m) (fun c => semVal (barCell c) 0) (make_ready m) (enter m) (leave m)
    (fun c => by iintro H; imodintro; iexact H)
    (fun _ => 0)
    ⟨fun c w s => by rw [L_tc]; exact Finset.mem_singleton_self _,
      fun c w s => Nat.le_of_eq (by
        show (match role (.dma ((spec0 w).sem s)) with | .bar => 1 | .rcv i => i.val + 2 | _ => 0) = 0
        rw [staging_level c w s]),
      fun c t g i h => cut_at m c t g i h⟩
    (fun _ => iprop(emp))
    (fun c w => entry_at m c w) (fun c w => exit_at m c w)

/-- What rides beside the buffers before the launch, and after it. -/
def beside (k : Fin 2) (c : Dev nD) : sProp 𝕄 :=
  if k = 0 then iprop(held₀ m c ∗ (∃ r, prngReg c r) ∗ ∃ W, owes (c : Thread nD τ) (owedAll c) W)
  else iprop(semVal (barCell c) 0 ∗ ∃ W, owes (c : Thread nD τ) (0 : CellTallies nD τ sig Unit) W)
theorem beside_0 (c : Dev nD) : beside m 0 c = iprop(held₀ m c ∗ (∃ r, prngReg c r) ∗ ∃ W, owes (c : Thread nD τ) (owedAll c) W) := if_pos rfl
theorem beside_1 (c : Dev nD) : beside m 1 c = iprop(semVal (barCell c) 0 ∗ ∃ W, owes (c : Thread nD τ) (0 : CellTallies nD τ sig Unit) W) := if_neg (by decide)

theorem item_pre (c : Dev nD) : iprop(StableHlo.held (c : Thread nD τ) (Pipeline.ucRefs τ sig) (V5 m c) ∗ beside m 0 c) ⊢ (launchItem m).pre c := by
  show _ ⊢ iprop(StableHlo.held (c.tc : Thread nD τ) (arrs (F := F)) (V5 m c) ∗ (∃ r, prngReg c r)
    ∗ (StableHlo.held (c.tc : Thread nD τ) (others (F := F)) (V5 m c) ∗ emp) ∗ held₀ m c ∗ ∃ Wd, owes (c : Thread nD τ) (0 + owedAll c) Wd)
  rw [zero_add, beside_0, StableHlo.held_sub_split (c.tc : Thread nD τ) (arrs_sub (F := F)) (V5 m c)]
  iintro ⟨⟨Ha, Hr⟩, Hh, Hp, HO⟩
  isplitl [Ha]; · iexact Ha
  isplitl [Hp]; · iexact Hp
  isplitl [Hr]
  · isplitl [Hr]; · iexact Hr
    iempintro
  isplitl [Hh]; · iexact Hh
  iexact HO
theorem item_post (c : Dev nD) : (launchItem m).post c
    ⊢ iprop(StableHlo.held (c : Thread nD τ) (Pipeline.ucRefs τ sig) (V6 m (left₀ m) c) ∗ beside m 1 c) := by
  show iprop(StableHlo.held (c.tc : Thread nD τ) (arrs (F := F)) (V6 m (left₀ m) c) ∗ (∃ r, prngReg c r)
    ∗ (StableHlo.held (c.tc : Thread nD τ) (others (F := F)) (V6 m (left₀ m) c) ∗ emp) ∗ semVal (barCell c) 0
      ∗ ∃ Wd, owes (c : Thread nD τ) (0 : CellTallies nD τ sig Unit) Wd) ⊢ _
  rw [beside_1, StableHlo.held_sub_split (c.tc : Thread nD τ) (arrs_sub (F := F)) (V6 m (left₀ m) c)]
  iintro ⟨Ha, -, ⟨Hr, -⟩, Hb, HO⟩
  isplitl [Ha Hr]; · isplitl [Ha] <;> iassumption
  isplitl [Hb] <;> iassumption

end Cert.Proof.Talk
-- ==== Proof.Launch.lean ====
/-
  The launch: every cell of the exchange enters the schedule and the rights are dealt to the devices; from it the run of the
  whole program on all devices.
-/
module

public import proofs.«01_k».proof.Proof.Item
public import Idealize.ShloMosaic.Lib.Quiescent

@[expose] public section

noncomputable section

namespace Cert.Proof.Talk

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat BodyObligation)

variable (m : (ℓ : Loc nD τ sig) → Buf (Elt F) ℓ) (ρ : Dev nD → PrngReg)

/-! ## The cells and the rights, over all devices -/

theorem bar_ne_dma (s : DmaSem sig) : (SemLoc.reg barrier0 : SemLoc sig) ≠ .dma s := fun h => by cases h
theorem cells_apart : Disjoint (barCells : Finset (GSem nD τ sig)) dmaCells := by
  rw [Finset.disjoint_left]
  intro g h₁ h₂
  obtain ⟨c, -, rfl⟩ := Finset.mem_image.mp h₁
  rcases Finset.mem_union.mp h₂ with h | h <;> obtain ⟨p, -, h⟩ := Finset.mem_image.mp h
  · exact bar_ne_dma _ (congrArg Prod.snd h).symm
  · exact bar_ne_dma _ (congrArg Prod.snd h).symm

theorem bar_cells (P : GSem nD τ sig → sProp 𝕄) : bigSep barCells P = bigSep Finset.univ fun c => P (barCell c) :=
  bigSep_image_of_injOn (fun a _ b _ h => congrArg (fun g : GSem nD τ sig => g.1.1) h) P
theorem snd_inj : Function.Injective fun p : Fin 28 × Dev nD => sndCell p.1 p.2 := fun a b h =>
  Prod.ext (sndSem_inj (SemLoc.dma.inj (congrArg Prod.snd h))) (congrArg (fun g : GSem nD τ sig => g.1.1) h)
theorem rcv_inj : Function.Injective fun p : Fin 28 × Dev nD => rcvCell p.1 p.2 := fun a b h =>
  Prod.ext (rcvSem_inj (SemLoc.dma.inj (congrArg Prod.snd h))) (congrArg (fun g : GSem nD τ sig => g.1.1) h)
theorem snd_rcv_apart : Disjoint (Finset.univ.image fun p : Fin 28 × Dev nD => sndCell p.1 p.2)
    (Finset.univ.image fun p : Fin 28 × Dev nD => rcvCell p.1 p.2) := by
  rw [Finset.disjoint_left]
  intro g h₁ h₂
  obtain ⟨p, -, rfl⟩ := Finset.mem_image.mp h₁
  obtain ⟨q, -, h⟩ := Finset.mem_image.mp h₂
  exact snd_ne_rcv p.1 q.1 (SemLoc.dma.inj (congrArg Prod.snd h)).symm

/-- A family over copies and devices, device by device. -/
theorem by_device (P : Fin 28 × Dev nD → sProp 𝕄) :
    bigSep Finset.univ P = bigSep Finset.univ fun c => bigSep Finset.univ fun i => P (i, c) := by
  rw [bigSep_univ_prod]
  exact bigSep_univ_comm fun i c => P (i, c)
theorem dma_cells (P : GSem nD τ sig → sProp 𝕄) : bigSep dmaCells P
    = iprop((bigSep Finset.univ fun c => bigSep Finset.univ fun i => P (sndCell i c))
      ∗ bigSep Finset.univ fun c => bigSep Finset.univ fun i => P (rcvCell i c)) := by
  unfold dmaCells
  rw [bigSep_union snd_rcv_apart, bigSep_image_of_injOn (fun a _ b _ h => snd_inj h), bigSep_image_of_injOn (fun a _ b _ h => rcv_inj h),
    by_device, by_device]
  rfl

/-- The rights to complete: a unit of a barrier from each direction, a copy on either cell. -/
def barRights : Finset (GSem nD τ sig × ℕ × Fin 3) := Finset.univ.image fun p : Fin 3 × Dev nD => (barCell p.2, 0, p.1)
def dmaRights : Finset (GSem nD τ sig × ℕ × Fin 3) := dmaCells.image fun g => (g, 0, 0)
theorem rights_apart : Disjoint barRights dmaRights := by
  rw [Finset.disjoint_left]
  intro x h₁ h₂
  obtain ⟨p, -, rfl⟩ := Finset.mem_image.mp h₁
  obtain ⟨g, hg, h⟩ := Finset.mem_image.mp h₂
  have hg' : g = barCell p.2 := congrArg Prod.fst h
  subst hg'
  exact Finset.disjoint_left.mp cells_apart (Finset.mem_image_of_mem _ (Finset.mem_univ _)) hg

/-- Handing a family around along each direction changes nothing of the whole. -/
theorem hand_around {n : Nat} (dir : Fin n → Fin 3) (P : Fin n → Dev nD → sProp 𝕄) :
    (bigSep Finset.univ fun c => bigSep Finset.univ fun i => P i c)
      = bigSep Finset.univ fun c => bigSep Finset.univ fun i => P i (peer (dir i) c) := by
  rw [bigSep_univ_comm fun c i => P i c, bigSep_univ_comm fun c i => P i (peer (dir i) c)]
  exact bigSep_congr fun i _ => bigSep_univ_equiv (peerEquiv (dir i)) (P i)

theorem rights_dealt :
    (bigSep (barRights ∪ dmaRights) fun x => (dutyTok ER x.1 x.2.1 x.2.2 : sProp 𝕄))
      = iprop((bigSep Finset.univ fun c => bigSep Finset.univ fun d : Fin 3 => dutyTok ER (barCell (peer d c)) 0 d)
        ∗ (bigSep Finset.univ fun c => bigSep Finset.univ fun i => dutyTok ER (sndCell i c) 0 0)
        ∗ bigSep Finset.univ fun c => bigSep Finset.univ fun i => dutyTok ER (rcvCell i (peer (dirOf i) c)) 0 0) := by
  have hb : bigSep barRights (fun x => (dutyTok ER x.1 x.2.1 x.2.2 : sProp 𝕄))
      = bigSep Finset.univ fun p : Fin 3 × Dev nD => (dutyTok ER (barCell p.2) 0 p.1 : sProp 𝕄) :=
    bigSep_image_of_injOn (fun a _ b _ h => Prod.ext (congrArg (fun x : GSem nD τ sig × ℕ × Fin 3 => x.2.2) h)
      (congrArg (fun x : GSem nD τ sig × ℕ × Fin 3 => x.1.1.1) h)) fun x => (dutyTok ER x.1 x.2.1 x.2.2 : sProp 𝕄)
  have hd : bigSep dmaRights (fun x => (dutyTok ER x.1 x.2.1 x.2.2 : sProp 𝕄))
      = bigSep dmaCells fun g => (dutyTok ER g 0 0 : sProp 𝕄) := by
    unfold dmaRights
    exact bigSep_image_of_injOn (f := fun g : GSem nD τ sig => ((g, 0, 0) : GSem nD τ sig × ℕ × Fin 3)) (fun a _ b _ h => Prod.mk.inj h |>.1) _
  have h1 : (bigSep Finset.univ fun p : Fin 3 × Dev nD => (dutyTok ER (barCell p.2) 0 p.1 : sProp 𝕄))
      = bigSep Finset.univ fun c => bigSep Finset.univ fun d : Fin 3 => (dutyTok ER (barCell (peer d c)) 0 d : sProp 𝕄) :=
    (bigSep_univ_prod _).trans ((bigSep_univ_comm fun (d : Fin 3) (c : Dev nD) => (dutyTok ER (barCell c) 0 d : sProp 𝕄)).trans
      (hand_around (fun d : Fin 3 => d) fun d c => (dutyTok ER (barCell c) 0 d : sProp 𝕄)))
  have h2 := hand_around dirOf (fun i c => (dutyTok ER (rcvCell i c) 0 0 : sProp 𝕄))
  have h3 := dma_cells fun g => (dutyTok ER g 0 0 : sProp 𝕄)
  exact (bigSep_union rights_apart).trans (congrArg₂ BI.sep (hb.trans h1) (hd.trans (h3.trans (congrArg₂ BI.sep rfl h2))))

/-! ## The credit the launch gives -/

theorem peer_eq (d : Fin 3) (a b : Dev nD) : peer d a = b ↔ a = peer d b :=
  ⟨fun h => by rw [← h, peer_peer], fun h => by rw [h, peer_peer]⟩

theorem owed_bar_at (a c : Dev nD) : owedAll a (barCell c) () = ∑ d : Fin 3, if a = peer d c then 1 else 0 := by
  unfold owedAll owed owedBar
  rw [Pi.add_apply, Finsupp.add_apply, Finset.sum_apply, Finsupp.finset_sum_apply, Finset.sum_apply, Finsupp.finset_sum_apply,
    Finset.sum_eq_zero (fun i _ => by rw [tallyAt_apply, if_neg (fun h => bar_ne_dma _ (congrArg Prod.snd h.1))]), zero_add,
    Finset.filter_true_of_mem (fun d _ => Nat.zero_le _)]
  refine Finset.sum_congr rfl fun d _ => ?_
  rw [tallyAt_apply]
  refine if_congr ⟨fun h => (peer_eq d a c).mp (congrArg (fun g : GSem nD τ sig => g.1.1) h.1).symm, fun h => ⟨?_, rfl⟩⟩ rfl rfl
  rw [(peer_eq d a c).mpr h]
theorem owed_rcv_at (a c : Dev nD) (i : Fin 28) : owedAll a (rcvCell i c) () = if a = peer (dirOf i) c then N else 0 := by
  unfold owedAll owed owedBar
  rw [Pi.add_apply, Finsupp.add_apply, Finset.sum_apply, Finsupp.finset_sum_apply, Finset.sum_apply, Finsupp.finset_sum_apply,
    Finset.sum_eq_zero (s := Finset.univ.filter fun d : Fin 3 => 0 ≤ d.val) (fun d _ => by
      rw [tallyAt_apply, if_neg (fun h => bar_ne_dma _ (congrArg Prod.snd h.1).symm)]), add_zero,
    Finset.filter_true_of_mem (fun d _ => Nat.zero_le _),
    Finset.sum_eq_single i (fun j _ hj => by
      rw [tallyAt_apply, if_neg (fun h => hj (rcvSem_inj (SemLoc.dma.inj (congrArg Prod.snd h.1))).symm)])
      (fun h => absurd (Finset.mem_univ i) h), tallyAt_apply]
  refine if_congr ⟨fun h => (peer_eq (dirOf i) a c).mp (congrArg (fun g : GSem nD τ sig => g.1.1) h.1).symm, fun h => ⟨?_, rfl⟩⟩ rfl rfl
  rw [(peer_eq (dirOf i) a c).mpr h]

theorem credit_bar (c : Dev nD) :
    tallyOn (barCell c) (launchCredit (Pipeline.owing owedAll) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar_at d c, Finset.sum_comm]
  simp
theorem credit_rcv (i : Fin 28) (c : Dev nD) :
    tallyOn (rcvCell i c) (launchCredit (Pipeline.owing owedAll) 0 (rcvCell i c)) = (tallyAt (rcvCell i c) () N : CellTallies nD τ sig Unit) := by
  unfold tallyAt; refine congrArg _ (Finsupp.ext fun u => ?_); cases u
  rw [Pipeline.launchCredit_owing, Finsupp.single_eq_same, Finset.sum_congr rfl fun d _ => owed_rcv_at d c i,
    Finset.sum_ite_eq' Finset.univ _ fun _ => N, if_pos (Finset.mem_univ _)]

theorem credits (c : Dev nD) :
    (Pipeline.launchCred owedAll c : sProp 𝕄)
      ⊢ iprop(cred (tallyAt (barCell c) () 3) ∗ bigSep Finset.univ fun i => cred (tallyAt (rcvCell i c) () N)) := by
  unfold Pipeline.launchCred
  rw [bigSep_univ_at _ (SemLoc.reg barrier0), credit_bar]
  refine sep_mono_right ?_
  have hsub : (Finset.univ.image fun i : Fin 28 => (SemLoc.dma (rcvSem i) : SemLoc sig)) ⊆ Finset.univ.erase (SemLoc.reg barrier0) := by
    intro s hs
    obtain ⟨i, -, rfl⟩ := Finset.mem_image.mp hs
    exact Finset.mem_erase.mpr ⟨(bar_ne_dma _).symm, Finset.mem_univ _⟩
  have h := bigSep_subset (Φ := fun s : SemLoc sig => (cred (tallyOn ((c.tc : Thread nD τ), s) (launchCredit (Pipeline.owing owedAll) 0 ((c.tc : Thread nD τ), s))) : sProp 𝕄)) hsub
  rw [bigSep_image_of_injOn (fun a _ b _ h => rcvSem_inj (SemLoc.dma.inj h)),
    bigSep_congr (s := Finset.univ) fun i _ => congrArg (fun t => (cred t : sProp 𝕄)) (credit_rcv i c)] at h
  exact h

theorem unscoped_bar : (Finset.univ.filter fun sm : SemLoc sig => ¬ sm.isScoped .tc) = {SemLoc.reg barrier0} := by decide
theorem unscoped_zero (c : Dev nD) : (unscopedSems0 c : sProp 𝕄) = semVal (barCell c) 0 := by
  unfold unscopedSems0
  rw [unscoped_bar, BI.bigSep_singleton]

/-! ## The launch -/

def u₀ : UU := (initOf (Pipeline.cells cfgs cellOf_inj) (Pipeline.launchToks cfgs cellOf_inj), launchOf barCells dmaCells (barRights ∪ dmaRights))

/-- The exchange's launch element: kept whole, by device 0, until the cells enter the schedule. -/
def kept (c : Dev nD) : sProp 𝕄 := if c = 0 then BI.own (ER (launchOf barCells dmaCells (barRights ∪ dmaRights))) else iprop(emp)
theorem kept_all : bigSep Finset.univ (kept (F := F)) = BI.own (ER (launchOf barCells dmaCells (barRights ∪ dmaRights))) := by
  rw [bigSep_univ_at _ (0 : Dev nD), bigSep_congr (s := Finset.univ.erase 0) (Ψ := fun _ => (BI.emp : sProp 𝕄))
      fun c hc => by unfold kept; rw [if_neg (Finset.ne_of_mem_erase hc)]; rfl, BI.bigSep_emp_const]
  unfold kept; rw [if_pos rfl]
  exact BI.equiv_iff.mp sep_emp

/-- What is each device's own of the schedule once the cells have entered it. -/
def dealt (c : Dev nD) : sProp 𝕄 :=
  iprop(atPos ER (barCell c) 0 ∅ 0
    ∗ (bigSep Finset.univ (fun i : Fin 28 => openTok ER (sndCell i c)) ∗ bigSep Finset.univ (fun i : Fin 28 => openTok ER (rcvCell i c)))
    ∗ bigSep Finset.univ (fun d : Fin 3 => dutyTok ER (barCell (peer d c)) 0 d)
    ∗ bigSep Finset.univ (fun i : Fin 28 => dutyTok ER (sndCell i c) 0 0)
    ∗ bigSep Finset.univ (fun i : Fin 28 => dutyTok ER (rcvCell i (peer (dirOf i) c)) 0 0))
/-- What else each device brings. -/
def brought (c : Dev nD) : sProp 𝕄 :=
  iprop(StableHlo.held (c : Thread nD τ) (Pipeline.ucRefs τ sig) (V0 m c) ∗ owes (c : Thread nD τ) (owedAll c) ∅
    ∗ Pipeline.launchCred owedAll c ∗ prngReg c (ρ c))

abbrev T₀ (c : Dev nD) : sProp 𝕄 := iprop(StableHlo.held (c : Thread nD τ) (Pipeline.ucRefs τ sig) (V0 m c) ∗ beside m 0 c)
abbrev Tₙ (c : Dev nD) : sProp 𝕄 :=
  iprop(StableHlo.held (c : Thread nD τ) (Pipeline.ucRefs τ sig) (V6 m (left₀ m) c) ∗ semVal (barCell c) 0)

theorem start_at (K : GSem nD τ sig → ℕ) (c : Dev nD) : iprop(known (valW m) K ∗ (dealt c ∗ brought m ρ c)) ⊢ T₀ m c := by
  unfold dealt brought T₀
  rw [beside_0]
  unfold held₀
  iintro ⟨#HK, ⟨Hat, ⟨Ho1, Ho2⟩, Hd, Hs, Hr⟩, Hh, HO, Hc, Hp⟩
  ihave Hc2 := (credits (F := F) c) $$ Hc
  icases Hc2 with ⟨Hb, Hrc⟩
  isplitl [Hh]; · iexact Hh
  isplitr [Hp HO]
  · isplitr; · iexists K; iexact HK
    isplitl [Hd]; · iexact Hd
    isplitl [Hat]; · iexact Hat
    isplitl [Hb]; · iexact Hb
    isplitl [Hs Hr]; · iapply zip; isplitl [Hs] <;> iassumption
    isplitl [Hrc]; · iexact Hrc
    isplitl [Ho1] <;> iassumption
  isplitl [Hp]; · iexists (ρ c); iexact Hp
  iexists ∅; iexact HO

theorem launch_all :
    iprop((bigSep Finset.univ fun c : Dev nD => iprop(unscopedBufs c (fun b => m ((c.tc : Thread nD τ).loc b)) ∗ unscopedSems0 c
          ∗ owes (c.tc : Thread nD τ) (owedAll c) ∅ ∗ Pipeline.launchCred owedAll c ∗ prngReg c (ρ c) ∗ kept c)) ∗ levAts L lv)
      ⊢ (|={Set.univ}=> bigSep Finset.univ (T₀ m) : sProp 𝕄) := by
  have hcore (c : Dev nD) : iprop(unscopedBufs c (fun b => m ((c.tc : Thread nD τ).loc b)) ∗ unscopedSems0 c
        ∗ owes (c.tc : Thread nD τ) (owedAll c) ∅ ∗ Pipeline.launchCred owedAll c ∗ prngReg c (ρ c) ∗ kept c)
      ⊢ (iprop(brought m ρ c ∗ (semVal (barCell c) 0 ∗ kept c)) : sProp 𝕄) := by
    rw [show (unscopedBufs c (fun b => m ((c.tc : Thread nD τ).loc b)) : sProp 𝕄) = StableHlo.held (c : Thread nD τ) (Pipeline.ucRefs τ sig) (V0 m c) from
      Pipeline.unscopedBufs_held c (V0 m c), unscoped_zero]
    unfold brought
    iintro ⟨Hh, Hb, HO, Hc, Hp, Hk⟩
    isplitr [Hb Hk]
    · isplitl [Hh]; · iexact Hh
      isplitl [HO]; · iexact HO
      isplitl [Hc] <;> iassumption
    isplitl [Hb] <;> iassumption
  iintro ⟨H, -⟩
  ihave H1 := (show (bigSep Finset.univ fun c : Dev nD => iprop(unscopedBufs c (fun b => m ((c.tc : Thread nD τ).loc b)) ∗ unscopedSems0 c
          ∗ owes (c.tc : Thread nD τ) (owedAll c) ∅ ∗ Pipeline.launchCred owedAll c ∗ prngReg c (ρ c) ∗ kept c))
      ⊢ (bigSep Finset.univ fun c : Dev nD => iprop(brought m ρ c ∗ (semVal (barCell c) 0 ∗ kept c)) : sProp 𝕄) from bigSep_mono fun c _ => hcore c) $$ H
  ihave H2 := (unzip _ _) $$ H1
  icases H2 with ⟨HB, H3⟩
  ihave H4 := (unzip _ _) $$ H3
  icases H4 with ⟨Hv, Hk⟩
  imod (Rounds.fund_launch ER (sched (valW m)) cells_apart (fun g _ h => h) (barRights ∪ dmaRights)) $$ [Hv Hk] with ⟨%K, -, #Hinv, #Hr, Hat, Hopen, Htok⟩
  · isplitl [Hv]
    · iapply (Entails.of_eq (bar_cells (F := F) (fun g => semVal g 0)).symm) $$ Hv
    · iapply (Entails.of_eq (kept_all (F := F))) $$ Hk
  imodintro
  iapply (bigSep_with_persistent (R := known (valW m) K) (Φ := fun c => iprop(dealt c ∗ brought m ρ c)) fun c _ => start_at m ρ K c)
  isplitr
  · unfold known
    isplitr; · iexact Hinv
    iexact Hr
  iapply zip
  isplitr [HB]
  · unfold dealt
    iapply zip; isplitl [Hat]
    · iapply (Entails.of_eq (bar_cells (F := F) (fun g => atPos ER g 0 ∅ 0))) $$ Hat
    iapply zip; isplitl [Hopen]
    · iapply zip
      iapply (Entails.of_eq (dma_cells (F := F) (fun g => openTok ER g))) $$ Hopen
    ihave Ht := (Entails.of_eq (rights_dealt (F := F))) $$ Htok
    icases Ht with ⟨H1, H2, H3⟩
    iapply zip; isplitl [H1]; · iexact H1
    iapply zip; isplitl [H2] <;> iassumption
  · iexact HB

theorem element : (ownU u₀ : sProp 𝕄)
    ⊢ |={Set.univ}=> iprop(BI.own (EP (initOf (Pipeline.cells cfgs cellOf_inj) (Pipeline.launchToks cfgs cellOf_inj))) ∗ bigSep Finset.univ (kept (F := F))) := by
  unfold u₀
  iintro Hu
  ihave H := (ownU_pair _ _) $$ Hu
  icases H with ⟨HP, HX⟩
  imodintro
  isplitl [HP]; · iexact HP
  rw [kept_all]; iexact HX

/-! ## The run -/

abbrev items (c : Dev nD) := segs m 𝒱₀ L lv (beside m) () (pdats m) (launchItem m) c

/-- What a final memory holds of device `c`: its arguments as launched, what the kernel's launch left in the result, the
    barrier's counter back at zero. -/
def endsAt (c : Dev nD) (s : MemSt nD τ sig (Elt F)) : Prop :=
  (s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4))
  ∧ s.mem ((c.tc : Thread nD τ).loc main_v30) = final m c ∧ s.sem (barCell c) = 0

theorem read_end (c : Dev nD) (s' : Phys nD τ sig (Elt F)) : iprop(Tₙ m c ∗ SI s') ⊢ (|={Set.univ}=> iprop(⌜endsAt m c s'.mem⌝ ∗ SI s') : sProp 𝕄) := by
  dsimp only [Tₙ]
  unfold StableHlo.held
  iintro ⟨⟨Hh, Hb⟩, HSI⟩
  icombine HSI Hb gives %hb
  ihave Hr := (pointsTo_read_all (Pipeline.ucRefs τ sig) (fun b => ((c : Thread nD τ).1, b)) (V6 m (left₀ m) c) s') $$ [Hh HSI]
  · isplitl [Hh] <;> iassumption
  icases Hr with ⟨%h, HSI⟩
  imodintro
  isplitr
  · ipureintro
    have r (b : Ref sig .tc) (hb : ¬ b.isScoped) := h (Proc.devRef .tc b) (Finset.mem_filter.mpr ⟨StableHlo.devRef_mem_tcRefs b, hb⟩)
    exact ⟨⟨(r main_arg0 (by decide)).trans (V6_main_arg0 m _ c), (r main_arg1 (by decide)).trans (V6_main_arg1 m _ c),
        (r main_arg2 (by decide)).trans (V6_main_arg2 m _ c), (r main_arg3 (by decide)).trans (V6_main_arg3 m _ c),
        (r main_arg4 (by decide)).trans (V6_main_arg4 m _ c)⟩,
      (r main_v30 (by decide)).trans (V6_out m c), by simpa using hb⟩
  · iexact HSI

theorem unscoped_only : ∀ sm : SemLoc sig, sm.isScoped .tc = false → sm = .reg barrier0 := by decide

set_option backward.isDefEq.respectTransparency.types false in
/-- Every weakly fair execution of the program on the eight devices ends, every final state with each device's arguments as
    launched, the result as the kernel's launch leaves it, and every semaphore counter at zero. -/
theorem run_main : θ_run defs (onTc (τ := τ) (main (F := F))) ⟨m, fun _ => 0, ρ⟩
    (fun r => (∀ c : Dev nD, endsAt m c r.2) ∧ r.2.sem = fun _ => 0) :=
  Pipeline.θ_run_regions_kit_dev_sems (pcfgs (F := F)) adm (pdats m) () cellOf_inj EP defs₀ 𝒱₀ L lv m ρ main (items m)
    (fun c Q => by
      rewrite [main_chain c, Pipeline.Seg.run_eq_chain,
        show (items m c).map Pipeline.Seg.prog = [
          StableHlo.seq (hostOps0 c), StableHlo.seq hostOps0_1, StableHlo.seq hostOps0_2, StableHlo.seq hostOps0_3,
          StableHlo.seq hostOps0_4, Prog.lift (.customCall (Pipeline.entry 0) ())] from rfl]
      dsimp (config := { failIfUnchanged := false }) only
      exact .rfl)
    (fun c => by simp only [items, segs, Pipeline.Seg.pipes_host, Pipeline.Seg.pipes_region, Pipeline.Seg.pipes_nil]; decide)
    owedAll L_of_ne kept u₀ element (T₀ := T₀ m) (Tₙ := Tₙ m)
    (hch := fun c => ⟨.rfl, .rfl, .rfl, .rfl, .rfl, item_pre m c, (item_post m c).trans (by
      rw [beside_1]
      iintro ⟨Hh, Hb, HO⟩
      isplitr [HO]
      · isplitl [Hh] <;> iassumption
      · iexact HO)⟩)
    (hinit := launch_all m ρ) (QY := endsAt m) (hfin := read_end m)
    (hQ := fun s h hs => ⟨h, sem_eq_zero hs fun c sm hsm => by
      obtain rfl := unscoped_only sm hsm
      exact (h c).2.2⟩)

end Cert.Proof.Talk
-- ==== Proof.Same.lean ====
/- The kernel as printed and its ideal reading are one text: their tables of bodies and their main programs are equal. -/
module

public import proofs.«01_k».proof.Proof.Gen.Kernel
public import proofs.«01_k».proof.Proof.Gen.KernelIdeal

@[expose] public section

noncomputable section

namespace Cert.Proof

open Idealize.ShloMosaic Idealize.SL.Sem

variable {F : FTy → Type} [FloatOps F]

theorem bodies_same : Cert.Kernel.defs₀ (F := F) = Cert.KernelIdeal.defs₀ (F := F) := by
  unfold Cert.Kernel.defs₀ Cert.KernelIdeal.defs₀
  refine congrArg Defs.onTc (funext fun k => funext fun p => ?_)
  have hk : k = 0 := Subsingleton.elim (α := Fin 1) _ _
  subst hk
  obtain ⟨t, s⟩ := p
  rfl
theorem defs_same : Cert.Kernel.defs (F := F) = Cert.KernelIdeal.defs (F := F) := by
  unfold Cert.Kernel.defs Cert.KernelIdeal.defs
  rw [bodies_same]
  rfl
set_option maxHeartbeats 2000000 in
theorem main_same : Cert.Kernel.main (F := F) = Cert.KernelIdeal.main (F := F) := rfl

end Cert.Proof

end
-- ==== Proof.Finite.lean ====
/-
  What the precondition says: every element of the three arguments it names is a real number.
-/
module

public import proofs.«01_k».proof.Pre_finite_scores_KernelIdeal
public import proofs.«01_k».proof.Pre_finite_scores_ReferenceIdeal
public import Idealize.ShloMosaic.Lib.Pointwise
public import Idealize.ShloMosaic.Lib.ReduceAll

@[expose] public section

noncomputable section

namespace Cert.Proof.Finite

open Idealize.ShloMosaic

theorem facts_kernel : Cert.Pre_finite_scores_KernelIdeal.Facts :=
  ⟨by decide, by decide, by decide, by decide, by decide, by decide, by decide⟩
theorem facts_reference : Cert.Pre_finite_scores_ReferenceIdeal.Facts :=
  ⟨by decide, by decide, by decide, by decide, by decide, by decide, by decide⟩

open Cert.Pre_finite_scores_KernelIdeal

/-- A number whose absolute value is below infinity is a real. -/
theorem real_of_word (y : EReal) (h : FloatOps.cmpf (F := Ideal) (φ := .f32) .olt (FloatOps.absf (F := Ideal) (φ := .f32) y)
    (FloatOps.ofBits (F := Ideal) .f32 0x7F800000#32) = 1#1) : ∃ r : ℝ, y = r := by
  have hi : FloatOps.ofBits (F := Ideal) .f32 0x7F800000#32 = (⊤ : EReal) := by
    show Ideal.ofBits .f32 0x7F800000#32 = _
    unfold Ideal.ofBits Ideal.ieee
    simp
  rw [hi] at h
  induction y using EReal.rec with
  | bot =>
    exfalso
    revert h
    simp [FloatOps.cmpf, FloatOps.absf, Ideal.cmp]
  | coe r => exact ⟨r, rfl⟩
  | top =>
    exfalso
    revert h
    simp [FloatOps.cmpf, FloatOps.absf, Ideal.cmp]

/-- The precondition on one device's arguments, element by element. -/
theorem real_of_all [hPre : Facts] {x0 : FVec Ideal S2x128x512 .f32} {x1 : FVec Ideal S512x256 .f32} {x2 x3 : FVec Ideal S16x128x32x64 .f32}
    {x4 : FVec Ideal S256x512 .f32} (h : fn x0 x1 x2 x3 x4 = fun _ => 1#1) :
    (∀ i, ∃ r : ℝ, (x0 i : EReal) = r) ∧ (∀ i, ∃ r : ℝ, (x1 i : EReal) = r) ∧ ∀ i, ∃ r : ℝ, (x2 i : EReal) = r := by
  have h0 := congrFun h ix0
  obtain ⟨h01, h2⟩ := IntOp.andi_eq_one.1 h0
  obtain ⟨h0, h1⟩ := IntOp.andi_eq_one.1 h01
  have : Subsingleton S_.Idx := ⟨fun a b => funext fun i => i.elim0⟩
  refine ⟨fun i => real_of_word _ ?_, fun i => real_of_word _ ?_, fun i => real_of_word _ ?_⟩
  · exact Host.reduce_andi_all _ _ _ _ _ h0 i
  · exact Host.reduce_andi_all _ _ _ _ _ h1 i
  · exact Host.reduce_andi_all _ _ _ _ _ h2 i

end Cert.Proof.Finite
end
end
-- ==== Proof.Blocks.lean ====
/-
  The body's result as eight equal pieces: the part of the output which one device's block of weights contributes,
  and their sum.
-/
module

public import proofs.«01_k».proof.Proof.Region

@[expose] public section

noncomputable section

namespace Cert.Proof.Talk

open Cert.KernelIdeal Cert.KernelIdeal.Gen
open Idealize.ShloMosaic Idealize.ShloMosaic.TcCoe

variable {F : FTy → Type} [FloatOps F]

/-! ## One block of the attention -/

/-- The scaled queries of four heads, for the rows of both batches. -/
def queries (xb : FVec F S256x512 .bf16) (wq : FVec F S512x256 .bf16) : FVec F S256x256 .bf16 :=
  truncf .bf16 (mulf (matmul dot_S256x512_S512x256_S256x256_1_0_0_1_n_n none xb wq (constant S256x256 .f32 0x00000000#32))
    (broadcast S256x256 (Scalar.ofBits .f32 0x3E000000#32))) bitsLt_bf16_f32

theorem slices_head : ∀ (b : Fin 2) (h : Fin 4), S256x256.Slices ![128 * b.val, 64 * h.val] S128x64 := by decide
theorem slices_weights : ∀ h : Fin 4, S128x512.Slices ![0, 128 * h.val] S128x128 := by decide
theorem slices_scale : ∀ h : Fin 4, S128x4.Slices ![0, h.val] S128x1 := by decide

/-- The scores of head `h` of batch `b`. -/
def scoreOf (q : FVec F S256x256 .bf16) (k : Vec F S1x128x64 .bf16) (b : Fin 2) (h : Fin 4) : FVec F S128x128 .f32 :=
  matmul dot_S128x64_S128x64_S128x128_1_1_0_0_n_n none
    (extractStridedSlice S128x64 ![128 * b.val, 64 * h.val] q (slices_head b h))
    (shapeCast S128x64 k shapeCasts_S1x128x64_S128x64) (constant S128x128 .f32 0x00000000#32)

/-- The exponentials of the scores of the four heads of batch `b`, side by side. -/
def expOf (q : FVec F S256x256 .bf16) (k : Fin 4 → Vec F S1x128x64 .bf16) (b : Fin 2) : FVec F S128x512 .f32 :=
  exp (concatenate S128x512 1 [⟨S128x128, scoreOf q (k 0) b 0⟩, ⟨S128x128, scoreOf q (k 1) b 1⟩,
    ⟨S128x128, scoreOf q (k 2) b 2⟩, ⟨S128x128, scoreOf q (k 3) b 3⟩]
    concatenates_S128x128_S128x128_S128x128_S128x128_S128x512_d1)

/-- One over each row's sum of exponentials, per head. -/
def scaleOf (e : FVec F S128x512 .f32) : FVec F S128x4 .f32 :=
  divf (broadcast S128x4 (Scalar.ofBits .f32 0x3F800000#32))
    (multiReduction .add [2] S128x4 (shapeCast S128x4x128 e shapeCasts_S128x512_S128x4x128) 0x00000000#32
      reduces_S128x4x128_S128x4 (.inl rfl) rfl)

/-- The attention rows of one head. -/
def headOf (e : FVec F S128x512 .f32) (v : Vec F S1x128x64 .bf16) (h : Fin 4) : FVec F S128x64 .f32 :=
  mulf (matmul dot_S128x128_S128x64_S128x64_1_0_0_1_n_n none
      (extractStridedSlice S128x128 ![0, 128 * h.val] (truncf .bf16 e bitsLt_bf16_f32) (slices_weights h))
      (shapeCast S128x64 v shapeCasts_S1x128x64_S128x64) (constant S128x64 .f32 0x00000000#32))
    (broadcastTo S128x64 (extractStridedSlice S128x1 ![0, h.val] (scaleOf e) (slices_scale h)) broadcasts_S128x1_S128x64)

/-- The attention rows of the four heads, side by side. -/
def rowsOf (e : FVec F S128x512 .f32) (v : Fin 4 → Vec F S1x128x64 .bf16) : FVec F S128x256 .f32 :=
  concatenate S128x256 1 [⟨S128x64, headOf e (v 0) 0⟩, ⟨S128x64, headOf e (v 1) 1⟩, ⟨S128x64, headOf e (v 2) 2⟩,
    ⟨S128x64, headOf e (v 3) 3⟩] concatenates_S128x64_S128x64_S128x64_S128x64_S128x256_d1

/-- What one device's block of weights contributes to the output's rows. -/
def contribution (xb : FVec F S256x512 .bf16) (wq wo : FVec F S512x256 .bf16) (k v : Fin 2 → Fin 4 → Vec F S1x128x64 .bf16) :
    FVec F S256x512 .f32 :=
  matmul dot_S256x256_S512x256_S256x512_1_1_0_0_n_n none
    (truncf .bf16 (concatenate S256x256 0 [⟨S128x256, rowsOf (expOf (queries xb wq) (k 0) 0) (v 0)⟩,
      ⟨S128x256, rowsOf (expOf (queries xb wq) (k 1) 1) (v 1)⟩] concatenates_S128x256_S128x256_S256x256_d0) bitsLt_bf16_f32)
    wo (constant S256x512 .f32 0x00000000#32)

/-! ## The blocks the body reads -/

theorem inb_head : ∀ (b : Fin 2) (s : Fin 8) (h : Fin 4),
    ∀ a, (![b.val, 0, 256 * s.val + 64 * h.val] : Fin 3 → Nat) a + S1x128x64.size a ≤ S2x128x2048.size a := by decide
theorem inb_half : ∀ i : Fin 2, ∀ a, (![i.val, 0, 0] : Fin 3 → Nat) a + S1x512x256.size a ≤ S2x512x256.size a := by decide
theorem inb_slot : ∀ (s : Fin 7) (i : Fin 2),
    ∀ a, (![s.val, i.val, 0, 0] : Fin 4 → Nat) a + S1x1x512x256.size a ≤ S7x2x512x256.size a := by decide

/-- The rows of both batches. -/
def xRows (fx : xM.view.ty.Contents (Elt F)) : FVec F S256x512 .bf16 :=
  truncf .bf16 (shapeCast S256x512 (shapeCast S2x128x512
    (View.readAt (Elt F) xM.view (Rect.unit (s := S2x128x512) ![0, 0, 0] S2x128x512.size inb_S2x128x512_S2x128x512_0_0_0).toLoadRect fx)
    shapeCasts_S2x128x512_S2x128x512) shapeCasts_S2x128x512_S256x512) bitsLt_bf16_f32

/-- Head `h` of slab `s` of batch `b` of a key or value array. -/
def kAt (fk : kM.view.ty.Contents (Elt F)) (s : Fin 8) (b : Fin 2) (h : Fin 4) : Vec F S1x128x64 .bf16 :=
  View.readAt (Elt F) kM.view (Rect.unit (s := S2x128x2048) ![b.val, 0, 256 * s.val + 64 * h.val] S1x128x64.size (inb_head b s h)).toLoadRect fk
def vAt (fv : vM.view.ty.Contents (Elt F)) (s : Fin 8) (b : Fin 2) (h : Fin 4) : Vec F S1x128x64 .bf16 :=
  View.readAt (Elt F) vM.view (Rect.unit (s := S2x128x2048) ![b.val, 0, 256 * s.val + 64 * h.val] S1x128x64.size (inb_head b s h)).toLoadRect fv

/-- One of the two halves of a device's own weights, and of a gathered slot. -/
def ownHalf (f : WC F) (i : Fin 2) : FVec F S512x256 .bf16 :=
  shapeCast S512x256 (View.readAt (Elt F) wcM.view (Rect.unit (s := S2x512x256) ![i.val, 0, 0] S1x512x256.size (inb_half i)).toLoadRect f)
    shapeCasts_S1x512x256_S512x256
def slotHalf (f : WG F) (s : Fin 7) (i : Fin 2) : FVec F S512x256 .bf16 :=
  shapeCast S512x256 (View.readAt (Elt F) wgM.view (Rect.unit (s := S7x2x512x256) ![s.val, i.val, 0, 0] S1x1x512x256.size (inb_slot s i)).toLoadRect f)
    shapeCasts_S1x1x512x256_S512x256

variable (X : Dev nD → WC F) (c : Dev nD) (fx : xM.view.ty.Contents (Elt F)) (fk : kM.view.ty.Contents (Elt F))
  (fv : vM.view.ty.Contents (Elt F))

/-- The contribution of the device's own weights. -/
def part0 : FVec F S256x512 .f32 :=
  contribution (xRows fx) (ownHalf (X c) 0) (ownHalf (X c) 1) (kAt fk 0) (vAt fv 0)
/-- The contribution of the weights in slot `s`. -/
def part (s : Fin 7) : FVec F S256x512 .f32 :=
  contribution (xRows fx) (slotHalf (gathered X c) s 0) (slotHalf (gathered X c) s 1) (kAt fk s.succ) (vAt fv s.succ)

/-! ## The running sum -/

theorem sum0 : run.sl.r_15 X c fx fk fv = part0 X c fx fk fv := rfl
theorem sum1 : run.sl.r_32 X c fx fk fv = addf (run.sl.r_15 X c fx fk fv) (part X c fx fk fv 0) := rfl
theorem sum2 : run.sl.r_44 X c fx fk fv = addf (run.sl.r_32 X c fx fk fv) (part X c fx fk fv 1) := rfl
theorem sum3 : run.sl.r_61 X c fx fk fv = addf (run.sl.r_44 X c fx fk fv) (part X c fx fk fv 2) := rfl
theorem sum4 : run.sl.r_78 X c fx fk fv = addf (run.sl.r_61 X c fx fk fv) (part X c fx fk fv 3) := rfl
theorem sum5 : run.sl.r_91 X c fx fk fv = addf (run.sl.r_78 X c fx fk fv) (part X c fx fk fv 4) := rfl
theorem sum6 : run.sl.r_108 X c fx fk fv = addf (run.sl.r_91 X c fx fk fv) (part X c fx fk fv 5) := rfl
theorem sum7 : run.sl.r_122 X c fx fk fv = addf (run.sl.r_108 X c fx fk fv) (part X c fx fk fv 6) := rfl

/-- The body's result: the eight contributions, added up. -/
theorem outVal_eq : outVal X c fx fk fv = shapeCast S2x128x512
    (addf (addf (addf (addf (addf (addf (addf (part0 X c fx fk fv) (part X c fx fk fv 0)) (part X c fx fk fv 1))
      (part X c fx fk fv 2)) (part X c fx fk fv 3)) (part X c fx fk fv 4)) (part X c fx fk fv 5)) (part X c fx fk fv 6))
    shapeCasts_S256x512_S2x128x512 := by
  rw [← sum0, ← sum1, ← sum2, ← sum3, ← sum4, ← sum5, ← sum6, ← sum7]
  rfl

end Cert.Proof.Talk

end

end
-- ==== Proof.Value.lean ====
/-
  The contribution of one device's block of weights, element by element, over the extended reals.
-/
module

public import proofs.«01_k».proof.Proof.Blocks
public import Idealize.ShloMosaic.Lib.Pointwise

@[expose] public section

noncomputable section

namespace Cert.Proof.Value

open Cert.KernelIdeal Cert.KernelIdeal.Gen Cert.Proof.Talk
open Idealize.ShloMosaic Idealize.ShloMosaic.TcCoe
theorem queries_apply (xb : FVec Ideal S256x512 .bf16) (wq : FVec Ideal S512x256 .bf16) (r : Fin 256) (d : Fin 256) :
    queries xb wq (ix2 r d) = (∑ t : Fin 512, xb (ix2 r t) * wq (ix2 t d)) * Ideal.ofBits .f32 0x3E000000#32 := by
  pointwise [queries]

theorem score_apply (q : FVec Ideal S256x256 .bf16) (k : Vec Ideal S1x128x64 .bf16) (b : Fin 2) (h : Fin 4) (i l : Fin 128) :
    scoreOf q k b h (ix2 i l) = ∑ e : Fin 64, q (ix2 ⟨128 * b.val + i.val, by omega⟩ ⟨64 * h.val + e.val, by omega⟩) * k (ix3 0 l e) := by
  pointwise [scoreOf]

theorem exp_apply (q : FVec Ideal S256x256 .bf16) (k : Fin 4 → Vec Ideal S1x128x64 .bf16) (b : Fin 2) (h : Fin 4) (i l : Fin 128) :
    expOf q k b (ix2 i ⟨128 * h.val + l.val, by omega⟩) = Ideal.exp (scoreOf q (k h) b h (ix2 i l)) := by
  fin_cases h <;> pointwise [expOf]
  all_goals
    repeat rw [dif_neg (by omega)]
    try rw [dif_pos (by omega)]
    congr 3
    exact Fin.ext (by dsimp only; omega)

theorem scale_apply (e : FVec Ideal S128x512 .f32) (h : Fin 4) (i : Fin 128) :
    scaleOf e (ix2 i h) = Ideal.div 1 (∑ l : Fin 128, e (ix2 i ⟨128 * h.val + l.val, by omega⟩)) := by
  pointwise [scaleOf]
  simp only [mul_comm 128]

theorem head_apply (e : FVec Ideal S128x512 .f32) (v : Vec Ideal S1x128x64 .bf16) (h : Fin 4) (i : Fin 128) (j : Fin 64) :
    headOf e v h (ix2 i j) = (∑ l : Fin 128, e (ix2 i ⟨128 * h.val + l.val, by omega⟩) * v (ix3 0 l j)) * scaleOf e (ix2 i h) := by
  pointwise [headOf]

theorem contribution_apply (xb : FVec Ideal S256x512 .bf16) (wq wo : FVec Ideal S512x256 .bf16) (k v : Fin 2 → Fin 4 → Vec Ideal S1x128x64 .bf16) (b : Fin 2) (i : Fin 128) (j : Fin 512) :
    contribution xb wq wo k v (ix2 ⟨128 * b.val + i.val, by omega⟩ j) =
    ∑ d : Fin 256, rowsOf (expOf (queries xb wq) (k b) b) (v b) (ix2 i d) * wo (ix2 j d) := by
  fin_cases b <;> pointwise [contribution]

theorem rows_apply (e : FVec Ideal S128x512 .f32) (v : Fin 4 → Vec Ideal S1x128x64 .bf16) (h : Fin 4) (i : Fin 128) (j : Fin 64) :
    rowsOf e v (ix2 i ⟨64 * h.val + j.val, by omega⟩) = headOf e (v h) h (ix2 i j) := by
  fin_cases h <;> pointwise [rowsOf]
  all_goals
    repeat rw [dif_neg (by omega)]
    try rw [dif_pos (by omega)]
    congr 2
    exact Fin.ext (by dsimp only; omega)

end Cert.Proof.Value
end
end
-- ==== Proof.Reference.lean ====
/-
  The reference's result, element by element, over the extended reals.
-/
module

public import proofs.«01_k».proof.Proof.Gen.ReferenceIdeal.Run
public import Idealize.ShloMosaic.Lib.Pointwise

@[expose] public section

noncomputable section

namespace Cert.Proof.Ref

open Cert.ReferenceIdeal Cert.ReferenceIdeal.Gen Cert.ReferenceIdeal.Value
open Idealize.ShloMosaic Idealize.ShloMosaic.TcCoe

/-! ## The window -/

/-- The sliding window, which at this length leaves out nothing. -/
def mask : IVec S128x128 1 :=
  cmpi .sle (absi (subi (broadcastInDim S128x128 ![0, 1] bcast_S128x1_S128x128_0_1 (broadcastInDim S128x1 ![0] bcast_S128_S128x1_0 (iotaInDim S128 32 0)))
      (broadcastInDim S128x128 ![0, 1] bcast_S1x128_S128x128_0_1 (broadcastInDim S1x128 ![1] bcast_S128_S1x128_1 (iotaInDim S128 32 0)))))
    (broadcastInDim S128x128 ![] bcast_S_S128x128 (constantI S_ 32 128#32))

def keep (k : IVec S128x128 1) : IVec S1x1x128x1 1 :=
  broadcastInDim S1x1x128x1 ![2] bcast_S128_S1x1x128x1_2 (Host.reduce IntOp.ori k (constantI S_ 1 0#1) reducesTo_S128x128_S128_d1 h_S_)

/-! ## The terms -/

def score (x : FVec Ideal S16x128x512 .f32) (wq : FVec Ideal S512x2048 .f32) (k : FVec Ideal S16x128x32x64 .f32) : FVec Ideal S16x32x128x128 .f32 :=
  mulf (Host.dotGeneral dot_S16x128x32x64_S16x128x32x64_S16x32x128x128_3_3_1_1_02_02 none
      (shapeCast _ (Host.dotGeneral dot_S16x128x512_S512x2048_S16x128x2048_2_0_01_1_n_n none x wq) shapeCasts_S16x128x2048_S16x128x32x64) k)
    (broadcastInDim S16x32x128x128 ![] bcast_S_S16x32x128x128 (constant S_ .f32 0x3E000000#32))

def masked (k : IVec S128x128 1) (s : FVec Ideal S16x32x128x128 .f32) : FVec Ideal S16x32x128x128 .f32 :=
  select (broadcastInDim S16x32x128x128 ![0, 1, 2, 3] bcast_S1x1x128x128_S16x32x128x128_0_1_2_3 (broadcastInDim S1x1x128x128 ![2, 3] bcast_S128x128_S1x1x128x128_2_3 k))
    s (broadcastInDim S16x32x128x128 ![] bcast_S_S16x32x128x128 (id (constant S_ .f32 0xCE6E6B28#32)))

def rowMax (s : FVec Ideal S16x32x128x128 .f32) : FVec Ideal S16x32x128 .f32 :=
  Host.reduce FloatOps.maximumf s (constant S_ .f32 0xFF800000#32) reducesTo_S16x32x128x128_S16x32x128_d3 h_S_

def expo (s : FVec Ideal S16x32x128x128 .f32) : FVec Ideal S16x32x128x128 .f32 :=
  Host.exp (subf s (broadcastInDim S16x32x128x128 ![0, 1, 2, 3] bcast_S16x32x128x1_S16x32x128x128_0_1_2_3
    (broadcastInDim S16x32x128x1 ![0, 1, 2] bcast_S16x32x128_S16x32x128x1_0_1_2 (rowMax s))))

def total (r : IVec S1x1x128x1 1) (w : FVec Ideal S16x32x128x128 .f32) : FVec Ideal S16x32x128x1 .f32 :=
  select (broadcastInDim S16x32x128x1 ![0, 1, 2, 3] bcast_S1x1x128x1_S16x32x128x1_0_1_2_3 r)
    (broadcastInDim S16x32x128x1 ![0, 1, 2] bcast_S16x32x128_S16x32x128x1_0_1_2
      (Host.reduceAdd w (constant S_ .f32 0x00000000#32) reducesTo_S16x32x128x128_S16x32x128_d3 h_S_))
    (broadcastInDim S16x32x128x1 ![] bcast_S_S16x32x128x1 (id (constant S_ .f32 0x3F800000#32)))

def weight (r : IVec S1x1x128x1 1) (w : FVec Ideal S16x32x128x128 .f32) : FVec Ideal S16x32x128x128 .f32 :=
  select (broadcastInDim S16x32x128x128 ![0, 1, 2, 3] bcast_S1x1x128x1_S16x32x128x128_0_1_2_3 r)
    (Host.divf w (broadcastInDim S16x32x128x128 ![0, 1, 2, 3] bcast_S16x32x128x1_S16x32x128x128_0_1_2_3 (total r w)))
    (broadcastInDim S16x32x128x128 ![] bcast_S_S16x32x128x128 (id (constant S_ .f32 0x00000000#32)))

def out (v : FVec Ideal S16x128x32x64 .f32) (w : FVec Ideal S16x32x128x128 .f32) (wo : FVec Ideal S2048x512 .f32) : FVec Ideal S16x128x512 .f32 :=
  Host.dotGeneral dot_S16x128x2048_S2048x512_S16x128x512_2_0_01_1_n_n none
    (shapeCast _ (transpose S16x128x32x64 [0, 3, 1, 2] (Host.dotGeneral dot_S16x128x32x64_S16x32x128x128_S16x32x64x128_1_3_3_2_02_01 none v w)
      transposes_S16x32x64x128_S16x128x32x64_0_3_1_2) shapeCasts_S16x128x32x64_S16x128x2048) wo

theorem res_eq (m : (ℓ : Loc nD τ sig) → Buf (Elt Ideal) ℓ) (c : Dev nD) : res_main_v34 m c
    = out (m ((c.tc : Thread nD τ).loc main_arg3))
        (weight (keep mask) (expo (masked mask (score (m ((c.tc : Thread nD τ).loc main_arg0)) (m ((c.tc : Thread nD τ).loc main_arg1))
          (m ((c.tc : Thread nD τ).loc main_arg2))))))
        (m ((c.tc : Thread nD τ).loc main_arg4)) := rfl

/-! ## Their values -/

theorem near : ∀ d : Fin 128, IntOp.cmpi .sle (IntOp.absi (BitVec.ofNat 32 d.val)) 128#32 = 1#1
    ∧ IntOp.cmpi .sle (IntOp.absi (-BitVec.ofNat 32 d.val)) 128#32 = 1#1 := by decide

theorem ofBits_lowest : Ideal.ofBits .f32 0xFF800000#32 = ⊥ := by
  show Ideal.ieee 8 23 0xFF800000#32 = ⊥
  unfold Ideal.ieee
  simp

theorem mask_eq : mask = fun _ => 1#1 := by
  funext j
  idx_vars j
  pointwise [mask]
  show IntOp.cmpi .sle (IntOp.absi (BitVec.ofNat 32 j0.val - BitVec.ofNat 32 j1.val)) 128#32 = 1#1
  rcases le_total j1.val j0.val with h | h
  · rw [show BitVec.ofNat 32 j0.val - BitVec.ofNat 32 j1.val = BitVec.ofNat 32 (j0.val - j1.val) from by
      apply BitVec.eq_of_toNat_eq; simp only [BitVec.toNat_sub, BitVec.toNat_ofNat]; omega]
    exact (near ⟨j0.val - j1.val, by omega⟩).1
  · rw [show BitVec.ofNat 32 j0.val - BitVec.ofNat 32 j1.val = -BitVec.ofNat 32 (j1.val - j0.val) from by
      apply BitVec.eq_of_toNat_eq; simp only [BitVec.toNat_sub, BitVec.toNat_neg, BitVec.toNat_ofNat]; omega]
    exact (near ⟨j1.val - j0.val, by omega⟩).2

theorem keep_eq : keep (fun _ => 1#1) = fun _ => 1#1 := by
  funext j
  idx_vars j
  pointwise [keep]
  rw [Finset.fold_const _ (by decide), if_neg (Finset.univ_nonempty.ne_empty)]
  rfl

theorem masked_eq (s : FVec Ideal S16x32x128x128 .f32) : masked (fun _ => 1#1) s = s := by
  funext j
  idx_vars j
  pointwise [masked]

theorem score_apply (x : FVec Ideal S16x128x512 .f32) (wq : FVec Ideal S512x2048 .f32) (k : FVec Ideal S16x128x32x64 .f32)
    (b : Fin 16) (h : Fin 32) (i l : Fin 128) : score x wq k (ix4 b h i l) =
    (∑ e : Fin 64, (∑ t : Fin 512, x (ix3 b i t) * wq (ix2 t ⟨64 * h.val + e.val, by omega⟩)) * k (ix4 b l h e)) * Ideal.ofBits .f32 0x3E000000#32 := by
  pointwise [score]
  simp only [mul_comm 64]

theorem rowMax_apply (s : FVec Ideal S16x32x128x128 .f32)
    (b : Fin 16) (h : Fin 32) (i : Fin 128) : rowMax s (ix3 b h i) = Finset.univ.fold max ⊥ fun l : Fin 128 => s (ix4 b h i l) := by
  pointwise [rowMax]
  rw [ofBits_lowest]

theorem expo_apply (s : FVec Ideal S16x32x128x128 .f32)
    (b : Fin 16) (h : Fin 32) (i l : Fin 128) : expo s (ix4 b h i l) = Ideal.exp (s (ix4 b h i l) - rowMax s (ix3 b h i)) := by
  pointwise [expo]

theorem weight_apply (s : FVec Ideal S16x32x128x128 .f32)
    (b : Fin 16) (h : Fin 32) (i l : Fin 128) : weight (fun _ => 1#1) s (ix4 b h i l) = Ideal.div (s (ix4 b h i l)) (∑ l', s (ix4 b h i l')) := by
  pointwise [weight, total]

theorem out_apply (v : FVec Ideal S16x128x32x64 .f32) (w : FVec Ideal S16x32x128x128 .f32) (wo : FVec Ideal S2048x512 .f32)
   (b : Fin 16) (i : Fin 128) (j : Fin 512) : out v w wo (ix3 b i j) =
    ∑ n : Fin 2048, (∑ l : Fin 128, v (ix4 b l ⟨n.val / 64, by omega⟩ ⟨n.val % 64, by omega⟩) * w (ix4 b ⟨n.val / 64, by omega⟩ i l)) * wo (ix2 n j) := by
  pointwise [out]

/-- The reference's weights: each row of exponentials over its sum. -/
def softmax (s : FVec Ideal S16x32x128x128 .f32) : FVec Ideal S16x32x128x128 .f32 := weight (fun _ => 1#1) (expo s)

theorem softmax_apply (s : FVec Ideal S16x32x128x128 .f32) (b : Fin 16) (h : Fin 32) (i l : Fin 128) :
    softmax s (ix4 b h i l) = Ideal.div (Ideal.exp (s (ix4 b h i l) - Finset.univ.fold max ⊥ fun l' : Fin 128 => s (ix4 b h i l')))
      (∑ l', Ideal.exp (s (ix4 b h i l') - Finset.univ.fold max ⊥ fun l' : Fin 128 => s (ix4 b h i l'))) := by
  simp only [softmax, weight_apply, expo_apply, rowMax_apply]

theorem res_value (m : (ℓ : Loc nD τ sig) → Buf (Elt Ideal) ℓ) (c : Dev nD) : res_main_v34 m c
    = out (m ((c.tc : Thread nD τ).loc main_arg3))
        (softmax (score (m ((c.tc : Thread nD τ).loc main_arg0)) (m ((c.tc : Thread nD τ).loc main_arg1)) (m ((c.tc : Thread nD τ).loc main_arg2))))
        (m ((c.tc : Thread nD τ).loc main_arg4)) := by
  rw [res_eq, mask_eq, keep_eq, masked_eq]
  rfl

end Cert.Proof.Ref
end
end
-- ==== Proof.Softmax.lean ====
/-
  The two ways of writing one row of attention: exponentials weighted and divided at the end, or a softmax with the maximum
  taken off first. They agree when the scores are real; the values may be anything.
-/
module

public import Idealize.ShloMosaic.Lib.Pointwise

@[expose] public section

noncomputable section

namespace Cert.Proof.Softmax

open Idealize.ShloMosaic

theorem exp_coe (r : ℝ) : Ideal.exp (r : EReal) = ((Real.exp r : ℝ) : EReal) := rfl

theorem sum_coe {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A real factor that is not negative goes into a sum of any extended reals. -/
theorem coe_mul_sum {ι : Type} (s : Finset ι) {p : ℝ} (hp : 0 ≤ p) (f : ι → EReal) :
    (p : EReal) * ∑ i ∈ s, f i = ∑ i ∈ s, (p : EReal) * f i := by
  classical
  induction s using Finset.induction_on with
  | empty => simp
  | insert a s ha ih =>
    rw [Finset.sum_insert ha, Finset.sum_insert ha,
      EReal.left_distrib_of_nonneg_of_ne_top (EReal.coe_nonneg.2 hp) (EReal.coe_ne_top p), ih]

/-- The maximum of a row of reals is a real. -/
theorem fold_max_coe (r : Fin 128 → ℝ) : ∃ M : ℝ, (Finset.univ.fold max ⊥ fun l => (r l : EReal)) = M := by
  obtain ⟨i, -, hi⟩ := Finset.exists_mem_eq_sup Finset.univ Finset.univ_nonempty fun l => (r l : EReal)
  exact ⟨r i, hi⟩

/-- One row of attention, both ways. -/
theorem row_eq (r : Fin 128 → ℝ) (V : Fin 128 → EReal) :
    (∑ l, Ideal.exp (r l) * V l) * Ideal.div 1 (∑ l, Ideal.exp (r l : EReal))
      = ∑ l, V l * Ideal.div (Ideal.exp ((r l : EReal) - Finset.univ.fold max ⊥ fun l' => (r l' : EReal)))
          (∑ l', Ideal.exp ((r l' : EReal) - Finset.univ.fold max ⊥ fun l'' => (r l'' : EReal))) := by
  obtain ⟨M, hM⟩ := fold_max_coe r
  have hZ : 0 < ∑ l, Real.exp (r l) := Finset.sum_pos (fun l _ => Real.exp_pos _) Finset.univ_nonempty
  have hZ' : 0 < ∑ l, Real.exp (r l - M) := Finset.sum_pos (fun l _ => Real.exp_pos _) Finset.univ_nonempty
  have hs : ∑ l, Real.exp (r l - M) = (∑ l, Real.exp (r l)) * Real.exp (-M) := by
    rw [Finset.sum_mul]
    exact Finset.sum_congr rfl fun l _ => by rw [sub_eq_add_neg, Real.exp_add]
  simp only [hM, ← EReal.coe_sub, exp_coe, sum_coe, Ideal.div_coe hZ.ne', Ideal.div_coe hZ'.ne']
  rw [one_mul, mul_comm, coe_mul_sum _ (by positivity)]
  refine Finset.sum_congr rfl fun l _ => ?_
  rw [← EReal.coe_mul, ← mul_assoc, ← EReal.coe_mul, mul_comm]
  congr 2
  rw [hs, sub_eq_add_neg, Real.exp_add]
  have := (Real.exp_pos (-M)).ne'
  field_simp

/-- The scale `1/8` is a real. -/
theorem scale_coe : ∃ p : ℝ, Ideal.ofBits .f32 0x3E000000#32 = (p : EReal) := by
  unfold Ideal.ofBits Ideal.ieee
  simp
  exact ⟨_, rfl⟩

/-- A score of finite numbers is a real, and it is the same with the scale on the queries or on the score. -/
theorem score_eq (x : Fin 512 → ℝ) (w : Fin 512 → Fin 64 → ℝ) (k : Fin 64 → ℝ) : ∃ r : ℝ,
    (∑ e, ((∑ t, (x t : EReal) * (w t e : EReal)) * Ideal.ofBits .f32 0x3E000000#32) * (k e : EReal)) = r
      ∧ (∑ e, (∑ t, (x t : EReal) * (w t e : EReal)) * (k e : EReal)) * Ideal.ofBits .f32 0x3E000000#32 = r := by
  obtain ⟨p, hp⟩ := scale_coe
  refine ⟨(∑ e, (∑ t, x t * w t e) * k e) * p, ?_, ?_⟩
  · simp only [hp, ← EReal.coe_mul, sum_coe, EReal.coe_eq_coe_iff, Finset.sum_mul]
    exact Finset.sum_congr rfl fun e _ => Finset.sum_congr rfl fun t _ => by ring
  · simp only [hp, ← EReal.coe_mul, sum_coe]

end Cert.Proof.Softmax
end
end
-- ==== Proof.Heads.lean ====
/-
  One device's block of heads: what the kernel computes with it is the reference's sum over those heads.
-/
module

public import proofs.«01_k».proof.Proof.Value
public import proofs.«01_k».proof.Proof.Reference
public import proofs.«01_k».proof.Proof.Softmax

@[expose] public section

noncomputable section

namespace Cert.Proof.Heads

open Cert.Proof.Talk Cert.Proof.Value
open Idealize.ShloMosaic

/-- The whole arrays. -/
structure Arrays where
  x : FVec Ideal Cert.ReferenceIdeal.S16x128x512 .f32
  wq : FVec Ideal Cert.ReferenceIdeal.S512x2048 .f32
  k : FVec Ideal Cert.ReferenceIdeal.S16x128x32x64 .f32
  v : FVec Ideal Cert.ReferenceIdeal.S16x128x32x64 .f32
  wo : FVec Ideal Cert.ReferenceIdeal.S2048x512 .f32

/-- The numbers that the scores are made of are reals. -/
structure Arrays.Real (A : Arrays) : Prop where
  x : ∀ i, ∃ r : ℝ, (A.x i : EReal) = r
  wq : ∀ i, ∃ r : ℝ, (A.wq i : EReal) = r
  k : ∀ i, ∃ r : ℝ, (A.k i : EReal) = r

/-- Batch `b` of device `c` in the whole arrays; head `h` and column `d` of device `g`'s block. -/
abbrev batch (c : Fin 8) (b : Fin 2) : Fin 16 := ⟨2 * c.val + b.val, by omega⟩
abbrev head (g : Fin 8) (h : Fin 4) : Fin 32 := ⟨4 * g.val + h.val, by omega⟩
abbrev col (g : Fin 8) (d : Fin 256) : Fin 2048 := ⟨256 * g.val + d.val, by omega⟩

/-- The reference's weights, and column `n`'s term of its last product. -/
def Arrays.weights (A : Arrays) := Cert.Proof.Ref.softmax (Cert.Proof.Ref.score A.x A.wq A.k)
def Arrays.term (A : Arrays) (B : Fin 16) (i : Fin 128) (j : Fin 512) (n : Fin 2048) : EReal :=
  (∑ l : Fin 128, A.v (ix4 B l ⟨n.val / 64, by omega⟩ ⟨n.val % 64, by omega⟩) * A.weights (ix4 B ⟨n.val / 64, by omega⟩ i l)) * A.wo (ix2 n j)

/-- The blocks of device `c` for the heads of device `g`, as elements of the whole arrays. -/
structure Blocks (A : Arrays) (c g : Fin 8) (xb : FVec Ideal Cert.KernelIdeal.S256x512 .bf16)
    (wq wo : FVec Ideal Cert.KernelIdeal.S512x256 .bf16) (k v : Fin 2 → Fin 4 → Vec Ideal Cert.KernelIdeal.S1x128x64 .bf16) : Prop where
  x : ∀ (b : Fin 2) (i : Fin 128) (t : Fin 512), xb (ix2 ⟨128 * b.val + i.val, by omega⟩ t) = A.x (ix3 (batch c b) i t)
  wq : ∀ (t : Fin 512) (d : Fin 256), wq (ix2 t d) = A.wq (ix2 t (col g d))
  wo : ∀ (j : Fin 512) (d : Fin 256), wo (ix2 j d) = A.wo (ix2 (col g d) j)
  k : ∀ (b : Fin 2) (h : Fin 4) (l : Fin 128) (e : Fin 64), k b h (ix3 0 l e) = A.k (ix4 (batch c b) l (head g h) e)
  v : ∀ (b : Fin 2) (h : Fin 4) (l : Fin 128) (e : Fin 64), v b h (ix3 0 l e) = A.v (ix4 (batch c b) l (head g h) e)

variable {A : Arrays} {c g : Fin 8} {xb : FVec Ideal Cert.KernelIdeal.S256x512 .bf16}
    {wq wo : FVec Ideal Cert.KernelIdeal.S512x256 .bf16} {k v : Fin 2 → Fin 4 → Vec Ideal Cert.KernelIdeal.S1x128x64 .bf16}

/-- The kernel's score is the reference's, and it is a real. -/
theorem score_eq (hA : A.Real) (hB : Blocks A c g xb wq wo k v) (b : Fin 2) (h : Fin 4) (i l : Fin 128) :
    ∃ r : ℝ, (scoreOf (queries xb wq) (k b h) b h (ix2 i l) : EReal) = r
      ∧ (Cert.Proof.Ref.score A.x A.wq A.k (ix4 (batch c b) (head g h) i l) : EReal) = r := by
  choose x' hx using fun t : Fin 512 => hA.x (ix3 (batch c b) i t)
  choose w' hw using fun (t : Fin 512) (e : Fin 64) => hA.wq (ix2 t (col g ⟨64 * h.val + e.val, by omega⟩))
  choose k' hk using fun e : Fin 64 => hA.k (ix4 (batch c b) l (head g h) e)
  obtain ⟨r, h1, h2⟩ := Softmax.score_eq x' w' k'
  refine ⟨r, ?_, ?_⟩
  · rw [score_apply, ← h1]
    simp only [queries_apply, hB.x, hB.wq, hB.k, hx, hw, hk]
  · rw [Cert.Proof.Ref.score_apply, ← h2]
    have hc : ∀ e : Fin 64, (⟨64 * (head g h).val + e.val, by omega⟩ : Fin 2048) = col g ⟨64 * h.val + e.val, by omega⟩ :=
      fun e => Fin.ext (by dsimp only; omega)
    simp only [hc, hx, hw, hk]

/-- One element of a head's output, both ways. -/
theorem head_eq (hA : A.Real) (hB : Blocks A c g xb wq wo k v) (b : Fin 2) (h : Fin 4) (i : Fin 128) (j : Fin 64) :
    (headOf (expOf (queries xb wq) (k b) b) (v b h) h (ix2 i j) : EReal)
      = ∑ l : Fin 128, A.v (ix4 (batch c b) l (head g h) j) * A.weights (ix4 (batch c b) (head g h) i l) := by
  choose r hk hr using fun l => score_eq hA hB b h i l
  rw [head_apply, scale_apply]
  simp only [exp_apply, hk, hB.v, Arrays.weights, Cert.Proof.Ref.softmax_apply, hr]
  exact Softmax.row_eq r _

/-- What the block contributes, as the reference's terms for its columns. -/
theorem contribution_eq (hA : A.Real) (hB : Blocks A c g xb wq wo k v) (b : Fin 2) (i : Fin 128) (j : Fin 512) :
    (contribution xb wq wo k v (ix2 ⟨128 * b.val + i.val, by omega⟩ j) : EReal) = ∑ d : Fin 256, A.term (batch c b) i j (col g d) := by
  rw [contribution_apply]
  refine Finset.sum_congr rfl fun d _ => ?_
  have hd : d = ⟨64 * (⟨d.val / 64, by omega⟩ : Fin 4).val + (⟨d.val % 64, by omega⟩ : Fin 64).val, by dsimp only; omega⟩ :=
    Fin.ext (by dsimp only; omega)
  have hr : (rowsOf (expOf (queries xb wq) (k b) b) (v b) (ix2 i d) : EReal) = _ :=
    (congrArg (fun d => rowsOf (expOf (queries xb wq) (k b) b) (v b) (ix2 i d)) hd).trans
      ((rows_apply _ _ _ _ _).trans (head_eq hA hB b ⟨d.val / 64, by omega⟩ i ⟨d.val % 64, by omega⟩))
  rw [hr, hB.wo]
  unfold Arrays.term
  have h1 : (⟨(col g d).val / 64, by omega⟩ : Fin 32) = head g ⟨d.val / 64, by omega⟩ := Fin.ext (by dsimp only; omega)
  have h2 : (⟨(col g d).val % 64, by omega⟩ : Fin 64) = ⟨d.val % 64, by omega⟩ := Fin.ext (by dsimp only; omega)
  rw [h1, h2]

end Cert.Proof.Heads
end
end
-- ==== Proof.Host.lean ====
/-
  What the host code hands the kernel, element by element: the two weights in one array, and the device's keys and values with
  their heads in the order in which the kernel meets the devices.
-/
module

public import proofs.«01_k».proof.Proof.Region
public import Idealize.ShloMosaic.Lib.Pointwise
public import Idealize.ShloMosaic.Lib.StableHlo.ReadAt
public import Idealize.ShloMosaic.Lib.Tactic.WordOmega

@[expose] public section

noncomputable section

namespace Cert.Proof.Host

open Cert.KernelIdeal Cert.KernelIdeal.Gen Cert.Proof.Talk
open Idealize.ShloMosaic Idealize.ShloMosaic.TcCoe

variable (m : (ℓ : Loc nD τ sig) → Buf (Elt Ideal) ℓ) (c : Dev nD)

/-- The device whose heads slab `s` of device `c`'s keys and values holds. -/
def source (c : Dev nD) : Fin 8 → Dev nD := Fin.cons c fun s => owner s c

/-! ## The weights -/

theorem v9_wq (t : Fin 512) (d : Fin 256) : V1 m c main_v9 (ix3 0 t d) = m ((c.tc : Thread nD τ).loc main_arg1) (ix2 t d) := by
  unfold V1 V0
  after_reads_at
  after_reads_at

theorem v9_wo (t : Fin 512) (d : Fin 256) : V1 m c main_v9 (ix3 1 t d) = m ((c.tc : Thread nD τ).loc main_arg4) (ix2 d t) := by
  unfold V1 V0
  after_reads_at
  after_reads_at

/-! ## The word that names a slab's source -/

theorem rowMajor_ix1 (s : Fin 8) : S8.rowMajor (ix1 s) = s := Fin.ext (Shape.rowMajor_val_one _)

theorem word_source : ∀ (c : Dev nD) (s : Fin 8), IntOp.xori (Host.remui (Host.divui (fun _ : S_.Idx => c.word) (fun _ => 1#32)) (fun _ => 8#32) ix0)
    (lit0 s) = BitVec.ofNat 32 (source c s).val := by decide

theorem v21_eq (s : Fin 8) : V1 m c main_v21 (ix1 s) = BitVec.ofNat 32 (source c s).val := by
  unfold V1 V0
  after_reads_at
  rw [← word_source, rowMajor_ix1]
  rfl

/-! ## The device's batches of the keys and the values -/

/-- A device's two batches, cut out at the computed start. -/
theorem slice_at (x : Vec Ideal S16x128x32x64 .f32) (st : Fin 4 → Int) (h : ∀ k, st k = (![2 * (c.val : Int), 0, 0, 0] : Fin 4 → Int) k)
    (b : Fin 2) (l : Fin 128) (g : Fin 32) (e : Fin 64) :
    Host.dynamicSlice S2x128x32x64 x st sliceFits_S16x128x32x64_S2x128x32x64 (ix4 b l g e)
      = x (ix4 ⟨2 * c.val + b.val, by have : c.val < 8 := c.isLt; omega⟩ l g e) := by
  obtain rfl : st = _ := funext h
  have hc : c.val < 8 := c.isLt
  pointwise
  congr 1
  have e0 : Host.clampedStart S16x128x32x64 S2x128x32x64 rfl ![2 * (c.val : Int), 0, 0, 0] 0 = 2 * c.val :=
    Host.clampedStart_of_le _ _ _ _ (by simp) (by show 2 * c.val + 2 ≤ 16; omega)
  have e1 : Host.clampedStart S16x128x32x64 S2x128x32x64 rfl ![2 * (c.val : Int), 0, 0, 0] 1 = 0 :=
    Host.clampedStart_of_le _ _ _ _ (by simp) (by decide)
  have e2 : Host.clampedStart S16x128x32x64 S2x128x32x64 rfl ![2 * (c.val : Int), 0, 0, 0] 2 = 0 :=
    Host.clampedStart_of_le _ _ _ _ (by simp) (by decide)
  have e3 : Host.clampedStart S16x128x32x64 S2x128x32x64 rfl ![2 * (c.val : Int), 0, 0, 0] 3 = 0 :=
    Host.clampedStart_of_le _ _ _ _ (by simp) (by decide)
  simp only [e0, e1, e2, e3, Nat.zero_add]

/-- Four heads side by side. -/
theorem heads_at (x : Vec Ideal S2x128x32x64 .f32) (b : Fin 2) (l : Fin 128) (g : Fin 8) (d : Fin 256) :
    (shapeCast S2x128x8x256 (truncf (F := Ideal) .bf16 x bitsLt_bf16_f32) shapeCasts_S2x128x32x64_S2x128x8x256 (ix4 b l g d) : EReal)
      = x (ix4 b l ⟨4 * g.val + d.val / 64, by omega⟩ ⟨d.val % 64, by omega⟩) := by
  pointwise
  simp only [mul_comm 4]

/-- The start is twice the device's number. -/
theorem start_word : ∀ c : Dev nD, BitVec.toInt (Scalar.select (IntOp.cmpi CmpIPredicate.slt (IntOp.muli (Host.remui (Host.divui (fun _ : S_.Idx => c.word) (fun _ => 1#32)) (fun _ => 8#32) ix0) 2#32) 0#32)
   (IntOp.addi (IntOp.muli (Host.remui (Host.divui (fun _ : S_.Idx => c.word) (fun _ => 1#32)) (fun _ => 8#32) ix0) 2#32) 16#32) (IntOp.muli (Host.remui (Host.divui (fun _ : S_.Idx => c.word) (fun _ => 1#32)) (fun _ => 8#32) ix0) 2#32)) = 2 * (c.val : Int) := by decide

theorem v23_eq (b : Fin 2) (l : Fin 128) (g : Fin 8) (d : Fin 256) : V1 m c main_v23 (ix4 b l g d) = m ((c.tc : Thread nD τ).loc main_arg2) (ix4 ⟨2 * c.val + b.val, by have : c.val < 8 := c.isLt; omega⟩ l ⟨4 * g.val + d.val / 64, by omega⟩ ⟨d.val % 64, by omega⟩) := by
  unfold V1 V0
  after_reads_simp
  refine (heads_at _ b l g d).trans (slice_at c _ _ (fun k => ?_) _ _ _ _)
  fin_cases k
  · dsimp only [Fin.zero_eta, Matrix.cons_val]
    after_reads_at
    exact start_word c
  all_goals
    dsimp only [Fin.mk_one, Fin.reduceFinMk, Matrix.cons_val]
    after_reads_at
    rfl
theorem v25_eq (b : Fin 2) (l : Fin 128) (g : Fin 8) (d : Fin 256) : V1 m c main_v25 (ix4 b l g d) = m ((c.tc : Thread nD τ).loc main_arg3) (ix4 ⟨2 * c.val + b.val, by have : c.val < 8 := c.isLt; omega⟩ l ⟨4 * g.val + d.val / 64, by omega⟩ ⟨d.val % 64, by omega⟩) := by
  unfold V1 V0
  after_reads_simp
  refine (heads_at _ b l g d).trans (slice_at c _ _ (fun k => ?_) _ _ _ _)
  fin_cases k
  · dsimp only [Fin.zero_eta, Matrix.cons_val]
    after_reads_at
    exact start_word c
  all_goals
    dsimp only [Fin.mk_one, Fin.reduceFinMk, Matrix.cons_val]
    after_reads_at
    rfl
/-! ## The slabs, taken by those words -/

/-- The take along the axis of devices, at an index. -/
theorem gather_at (x : Vec Ideal S2x128x8x256 .bf16) (idx : IVec S8x1 32) (b : Fin 2) (l : Fin 128) (s : Fin 8) (d : Fin 256) :
    Host.gather gather_S2x128x8x256_S8x1_S2x128x8x256_013_2_n_n_2_1_21281256 x idx (ix4 b l s d)
      = x (ix4 b l ⟨min (idx (ix2 s 0)).toInt.toNat 7, by omega⟩ d) := by
  unfold Host.gather
  congr 1
  funext a
  refine Fin.ext ?_
  fin_cases a
  all_goals
    dsimp [GatherDims.operandIdx]
    rw [GatherDims.batchCoord_eq_zero _ _ _ List.not_mem_nil]
    unfold GatherDims.start GatherDims.offCoord
  · rw [dif_neg (by decide), dif_pos (by decide)]
    simp
  · rw [dif_neg (by decide), dif_pos (by decide)]
    simp
  · rw [dif_pos (by decide), dif_neg (by decide)]
    have hsi : gather_S2x128x8x256_S8x1_S2x128x8x256_013_2_n_n_2_1_21281256.siIdx (ix4 b l s d)
      ⟨List.idxOf (2 : Fin 4) gather_S2x128x8x256_S8x1_S2x128x8x256_013_2_n_n_2_1_21281256.startIndexMap,
      List.idxOf_lt_length_iff.2 (List.mem_singleton.mpr rfl)⟩ = ix2 s 0 := by
      funext b; refine Fin.ext ?_
      fin_cases b <;> rfl
    rw [hsi]; rfl
  · rw [dif_neg (by decide), dif_pos (by decide)]
    simp
theorem select_one {α : Type} (a b : α) : Scalar.select 1#1 a b = a := rfl
/-- The word is in range, so the take's fill value is not read. -/
theorem inRange : ∀ dev : Fin 8, IntOp.andi (IntOp.andi
            (IntOp.cmpi CmpIPredicate.sge
              (Scalar.select (IntOp.cmpi CmpIPredicate.slt (BitVec.ofNat 32 dev.val) 0#32)
                (IntOp.addi (BitVec.ofNat 32 dev.val) 8#32) (BitVec.ofNat 32 dev.val))
              0#32)
            (IntOp.cmpi CmpIPredicate.sle
              (Scalar.select (IntOp.cmpi CmpIPredicate.slt (BitVec.ofNat 32 dev.val) 0#32)
                (IntOp.addi (BitVec.ofNat 32 dev.val) 8#32) (BitVec.ofNat 32 dev.val))
              7#32)) 1#1 = 1#1 := by decide
/-- The word names its device. -/
theorem atWord : ∀ dev : Fin 8, min (Scalar.select (IntOp.cmpi CmpIPredicate.slt (BitVec.ofNat 32 dev.val) 0#32)
                (IntOp.addi (BitVec.ofNat 32 dev.val) 8#32) (BitVec.ofNat 32 dev.val)).toInt.toNat 7 = dev.val := by decide
theorem take1 (W : Valuation τ sig (Elt Ideal)) (s : Fin 8) (dev : Dev nD) (h : W main_v21 (ix1 s) = BitVec.ofNat 32 dev.val)
    (b : Fin 2) (l : Fin 128) (d : Fin 256) : StableHlo.after hostOps0_1 W main_v26 (ix4 b l s d) = W main_v23 (ix4 b l ⟨dev.val, dev.isLt⟩ d) := by
  after_reads_at
  rw [gather_at, h, Finset.univ_unique, Finset.fold_singleton, inRange, select_one]
  congr 2
  refine Fin.ext ?_
  dsimp only
  pointwise
  rw [h, atWord]
theorem take2 (W : Valuation τ sig (Elt Ideal)) (s : Fin 8) (dev : Dev nD) (h : W main_v21 (ix1 s) = BitVec.ofNat 32 dev.val)
    (b : Fin 2) (l : Fin 128) (d : Fin 256) : StableHlo.after hostOps0_3 W main_v28 (ix4 b l s d) = W main_v25 (ix4 b l ⟨dev.val, dev.isLt⟩ d) := by
  after_reads_at
  rw [gather_at, h, Finset.univ_unique, Finset.fold_singleton, inRange, select_one]
  congr 2
  refine Fin.ext ?_
  dsimp only
  pointwise
  rw [h, atWord]

variable (s : Fin 8) (b : Fin 2) (l : Fin 128) (d : Fin 256)

theorem slab_k : V5 m c main_v27 (ix3 b l ⟨256 * s.val + d.val, by omega⟩)
    = m ((c.tc : Thread nD τ).loc main_arg2) (ix4 ⟨2 * c.val + b.val, by have : c.val < 8 := c.isLt; omega⟩ l
      ⟨4 * (source c s).val + d.val / 64, by have : (source c s).val < 8 := (source c s).isLt; omega⟩ ⟨d.val % 64, by omega⟩) := by
  rw [V5_of m c _ (by decide), V4_of m c _ (by decide), ← v23_eq m c b l (source c s) d,
    ← take1 (V1 m c) s (source c s) (v21_eq m c s) b l d]
  unfold V3 V2
  after_reads_at
theorem through_v25 : V3 m c main_v25 = V1 m c main_v25 := (V3_of m c _ (by decide)).trans (V2_of m c _ (by decide))
theorem through_v21 : V3 m c main_v21 = V1 m c main_v21 := (V3_of m c _ (by decide)).trans (V2_of m c _ (by decide))
theorem through_v9 : V5 m c main_v9 = V1 m c main_v9 :=
  (V5_of m c _ (by decide)).trans <| (V4_of m c _ (by decide)).trans <| (V3_of m c _ (by decide)).trans (V2_of m c _ (by decide))
theorem through_arg0 : V5 m c main_arg0 = m ((c.tc : Thread nD τ).loc main_arg0) :=
  (V5_of m c _ (by decide)).trans <| (V4_of m c _ (by decide)).trans <| (V3_of m c _ (by decide)).trans <|
    (V2_of m c _ (by decide)).trans (V1_of m c _ (by decide))

theorem slab_v : V5 m c main_v29 (ix3 b l ⟨256 * s.val + d.val, by omega⟩)
    = m ((c.tc : Thread nD τ).loc main_arg3) (ix4 ⟨2 * c.val + b.val, by have : c.val < 8 := c.isLt; omega⟩ l
      ⟨4 * (source c s).val + d.val / 64, by have : (source c s).val < 8 := (source c s).isLt; omega⟩ ⟨d.val % 64, by omega⟩) := by
  rw [← v25_eq m c b l (source c s) d, ← through_v25 m c, ← take2 (V3 m c) s (source c s) ((congrFun (through_v21 m c) _).trans (v21_eq m c s)) b l d]
  unfold V5 V4
  after_reads_at

end Cert.Proof.Host
end
end
-- ==== Proof.Windows.lean ====
/-
  The kernel's windows are whole arrays: the block a window reads is its array, and the program's result is what the body left.
-/
module

public import proofs.«01_k».proof.Proof.Item
public import Idealize.ShloMosaic.Lib.Pipeline.ValueKit

@[expose] public section

noncomputable section

namespace Cert.Proof.Windows

open Cert.KernelIdeal Cert.KernelIdeal.Gen Cert.Proof.Talk
open Idealize.ShloMosaic Idealize.ShloMosaic.TcCoe

variable {F : FTy → Type} [FloatOps F]
variable (m : (ℓ : Loc nD τ sig) → Buf (Elt F) ℓ) (c : Dev nD)
/-! ## Each block read is the array -/

theorem readX : valX m c = V5 m c main_arg0 := by
  funext j
  exact congrArg (V5 m c main_arg0) (funext fun a => Fin.ext (Pipeline.Window.rect_emb_val_of_index_zero win0_0 (0 : Fin 1) a rfl j))
theorem readW : valW m c = V5 m c main_v9 := by
  funext j
  exact congrArg (V5 m c main_v9) (funext fun a => Fin.ext (Pipeline.Window.rect_emb_val_of_index_zero win0_1 (0 : Fin 1) a rfl j))
theorem readK : valK m c = V5 m c main_v27 := by
  funext j
  exact congrArg (V5 m c main_v27) (funext fun a => Fin.ext (Pipeline.Window.rect_emb_val_of_index_zero win0_2 (0 : Fin 1) a rfl j))
theorem readV : valV m c = V5 m c main_v29 := by
  funext j
  exact congrArg (V5 m c main_v29) (funext fun a => Fin.ext (Pipeline.Window.rect_emb_val_of_index_zero win0_3 (0 : Fin 1) a rfl j))
/-- What the program returns is what the body left in the output buffer. -/
theorem final_eq : final m c = result m c :=
  Pipeline.Dat.arrAt_eq_of_after_last (dat m c) (4 : Fin 5) t0_0 (by decide +kernel) _ fun j => rfl
end Cert.Proof.Windows
end
end
-- ==== Proof.Inputs.lean ====
/-
  The blocks that the body computes with, at an index, as elements of the program's arguments.
-/
module

public import proofs.«01_k».proof.Proof.Host
public import proofs.«01_k».proof.Proof.Windows
public import proofs.«01_k».proof.Proof.Blocks
public import Idealize.ShloMosaic.Lib.Pipeline.ValueKit

@[expose] public section

noncomputable section

namespace Cert.Proof.Inputs

open Cert.KernelIdeal Cert.KernelIdeal.Gen Cert.Proof.Talk Cert.Proof.Host Cert.Proof.Windows
open Idealize.ShloMosaic Idealize.ShloMosaic.TcCoe

/-- A load of a rectangle of a whole buffer, at an index. -/
theorem load_at (r : Ref sig .tc) (off size : Fin r.ty.shape.rank → Nat) (inb) (f : r.ty.Contents (Elt Ideal))
    (x : (Rect.unit (s := r.ty.shape) off size inb).shape.Idx) (i : r.ty.shape.Idx) (hi : ∀ a, (i a).val = off a + (x a).val) :
    View.readAt (Elt Ideal) (View.whole r) (Rect.unit (s := r.ty.shape) off size inb).toLoadRect f x = f i := by
  rw [View.readAt_apply, View.read_whole]
  exact congrArg f (funext fun a => Fin.ext ((Rect.idx_unit_val off size inb x a).trans (hi a).symm))

variable (m : (ℓ : Loc nD τ sig) → Buf (Elt Ideal) ℓ) (c : Dev nD)

theorem x_at (b : Fin 2) (i : Fin 128) (t : Fin 512) :
    xRows (valX m c) (ix2 ⟨128 * b.val + i.val, by omega⟩ t) = m ((c.tc : Thread nD τ).loc main_arg0) (ix3 b i t) := by
  unfold xRows
  rw [readX, through_arg0]
  pointwise
  exact load_at cc0_stg0_0 _ _ _ _ _ _ (fun a => by fin_cases a <;> simp)

theorem k_at (s : Fin 8) (b : Fin 2) (h : Fin 4) (l : Fin 128) (e : Fin 64) : kAt (valK m c) s b h (ix3 0 l e)
    = m ((c.tc : Thread nD τ).loc main_arg2) (ix4 ⟨2 * c.val + b.val, by have : c.val < 8 := c.isLt; omega⟩ l
      ⟨4 * (source c s).val + h.val, by have : (source c s).val < 8 := (source c s).isLt; omega⟩ e) := by
  refine (load_at cc0_stg2_0 _ _ _ _ _ (ix3 b l ⟨256 * s.val + (64 * h.val + e.val), by omega⟩) (fun a => by fin_cases a <;> simp [ix3, add_assoc])).trans ?_
  rw [readK]
  refine (slab_k m c s b l ⟨64 * h.val + e.val, by omega⟩).trans ?_
  congr 2 <;> refine Fin.ext ?_ <;> dsimp only <;> omega

theorem v_at (s : Fin 8) (b : Fin 2) (h : Fin 4) (l : Fin 128) (e : Fin 64) : vAt (valV m c) s b h (ix3 0 l e)
    = m ((c.tc : Thread nD τ).loc main_arg3) (ix4 ⟨2 * c.val + b.val, by have : c.val < 8 := c.isLt; omega⟩ l
      ⟨4 * (source c s).val + h.val, by have : (source c s).val < 8 := (source c s).isLt; omega⟩ e) := by
  refine (load_at cc0_stg3_0 _ _ _ _ _ (ix3 b l ⟨256 * s.val + (64 * h.val + e.val), by omega⟩) (fun a => by fin_cases a <;> simp [ix3, add_assoc])).trans ?_
  rw [readV]
  refine (slab_v m c s b l ⟨64 * h.val + e.val, by omega⟩).trans ?_
  congr 2 <;> refine Fin.ext ?_ <;> dsimp only <;> omega
/-! The weights, the device's own and the gathered ones. -/

theorem half_cast (R : Vec Ideal S1x512x256 .bf16) (t : Fin 512) (d : Fin 256) :
    shapeCast S512x256 R shapeCasts_S1x512x256_S512x256 (ix2 t d) = R (ix3 0 t d) := by
  pointwise
theorem slot_cast (R : Vec Ideal S1x1x512x256 .bf16) (t : Fin 512) (d : Fin 256) :
    shapeCast S512x256 R shapeCasts_S1x1x512x256_S512x256 (ix2 t d) = R (ix4 0 0 t d) := by
  pointwise

theorem half_at (f : WC Ideal) (i : Fin 2) (t : Fin 512) (d : Fin 256) : ownHalf f i (ix2 t d) = f (ix3 i t d) :=
  (half_cast _ t d).trans (load_at cc0_stg1_0 _ _ _ _ _ _ fun a => by fin_cases a <;> simp)
theorem slot_at (f : WG Ideal) (s : Fin 7) (i : Fin 2) (t : Fin 512) (d : Fin 256) : slotHalf f s i (ix2 t d) = f (ix4 s i t d) :=
  (slot_cast _ t d).trans (load_at cc0_scratch0 _ _ _ _ _ _ fun a => by fin_cases a <;> simp)

theorem wq_at (t : Fin 512) (d : Fin 256) : valW m c (ix3 0 t d) = m ((c.tc : Thread nD τ).loc main_arg1) (ix2 t d) := by
  rw [readW, through_v9, v9_wq]
theorem wo_at (t : Fin 512) (d : Fin 256) : valW m c (ix3 1 t d) = m ((c.tc : Thread nD τ).loc main_arg4) (ix2 d t) := by
  rw [readW, through_v9, v9_wo]
theorem gathered_at (s : Fin 7) (i : Fin 2) (t : Fin 512) (d : Fin 256) :
    gathered (valW m) c (ix4 s i t d) = valW m (owner s c) (ix3 i t d) := rfl

end Cert.Proof.Inputs
end
end
-- ==== Proof.Equation.lean ====
/-
  The equation: what a device leaves in its output is its block of the reference's result.
-/
module

public import proofs.«01_k».proof.Proof.Heads
public import proofs.«01_k».proof.Proof.Inputs
public import Idealize.ShloMosaic.Lib.Layout

@[expose] public section

noncomputable section

namespace Cert.Proof.Equation

open Cert.KernelIdeal Cert.KernelIdeal.Gen Cert.Proof.Talk Cert.Proof.Host Cert.Proof.Heads Cert.Proof.Inputs
open Idealize.ShloMosaic Idealize.ShloMosaic.TcCoe

/-! ## The sum over all columns, device by device -/

theorem source_injective : ∀ c : Dev nD, Function.Injective (source c) := by decide

theorem sum_cols (f : Fin 2048 → EReal) : ∑ n, f n = ∑ g : Fin 8, ∑ d : Fin 256, f (col g d) := by
  rw [← Fintype.sum_prod_type']
  refine (Fintype.sum_equiv (finProdFinEquiv (m := 8) (n := 256)) _ _ fun p => ?_).symm
  exact congrArg f (Fin.ext (Nat.add_comm _ _))

/-- In the order in which device `c` meets the other devices' weights. -/
theorem sum_slabs (c : Dev nD) (f : Fin 2048 → EReal) : ∑ n, f n = ∑ s : Fin 8, ∑ d : Fin 256, f (col (source c s) d) := by
  rw [sum_cols]
  exact (Fintype.sum_bijective (source c) (Finite.injective_iff_bijective.1 (source_injective c)) _ _ fun _ => rfl).symm

/-! ## The devices' arguments as blocks of the whole arrays -/

variable (m : (ℓ : Loc nD τ sig) → Buf (Elt Ideal) ℓ)

/-- Every device's arguments are its blocks of `A`. -/
structure Holds (A : Arrays) : Prop where
  x : ∀ c : Dev nD, m ((c.tc : Thread nD τ).loc main_arg0) = Layout.block ⟨3, ![2, 128, 512]⟩ ⟨3, ![16, 128, 512]⟩ 0 8 c A.x
  wq : ∀ c : Dev nD, m ((c.tc : Thread nD τ).loc main_arg1) = Layout.block ⟨2, ![512, 256]⟩ ⟨2, ![512, 2048]⟩ 1 8 c A.wq
  k : ∀ c : Dev nD, m ((c.tc : Thread nD τ).loc main_arg2) = A.k
  v : ∀ c : Dev nD, m ((c.tc : Thread nD τ).loc main_arg3) = A.v
  wo : ∀ c : Dev nD, m ((c.tc : Thread nD τ).loc main_arg4) = Layout.block ⟨2, ![256, 512]⟩ ⟨2, ![2048, 512]⟩ 0 8 c A.wo

theorem block_rows3 {α : Type} (f : (⟨3, ![16, 128, 512]⟩ : Shape).Idx → α) (c : Fin 8) (b : Fin 2) (i : Fin 128) (t : Fin 512) :
    Layout.block ⟨3, ![2, 128, 512]⟩ ⟨3, ![16, 128, 512]⟩ 0 8 c f (by decide) (ix3 b i t) = f (ix3 (batch c b) i t) := by
  refine congrArg f (funext fun a => Fin.ext ?_)
  rw [Layout.Tiles.idx_val]
  fin_cases a <;> simp [ix3]
  omega
theorem block_cols {α : Type} (f : (⟨2, ![512, 2048]⟩ : Shape).Idx → α) (c : Fin 8) (t : Fin 512) (d : Fin 256) :
    Layout.block ⟨2, ![512, 256]⟩ ⟨2, ![512, 2048]⟩ 1 8 c f (by decide) (ix2 t d) = f (ix2 t (col c d)) := by
  refine congrArg f (funext fun a => Fin.ext ?_)
  rw [Layout.Tiles.idx_val]
  fin_cases a <;> simp [ix2]
  omega
theorem block_rows {α : Type} (f : (⟨2, ![2048, 512]⟩ : Shape).Idx → α) (c : Fin 8) (d : Fin 256) (j : Fin 512) :
    Layout.block ⟨2, ![256, 512]⟩ ⟨2, ![2048, 512]⟩ 0 8 c f (by decide) (ix2 d j) = f (ix2 (col c d) j) := by
  refine congrArg f (funext fun a => Fin.ext ?_)
  rw [Layout.Tiles.idx_val]
  fin_cases a <;> simp [ix2]
  omega

variable {m} {A : Arrays} (hm : Holds m A) (c : Dev nD)
include hm

/-- The blocks that go with the weights of slab `s`, whichever buffer the weights are in. -/
theorem blocks_of (s : Fin 8) {wq wo : FVec Ideal S512x256 .bf16}
    (hq : ∀ (t : Fin 512) (d : Fin 256), wq (ix2 t d) = valW m (source c s) (ix3 0 t d))
    (ho : ∀ (t : Fin 512) (d : Fin 256), wo (ix2 t d) = valW m (source c s) (ix3 1 t d)) :
    Blocks A c (source c s) (xRows (valX m c)) wq wo (kAt (valK m c) s) (vAt (valV m c) s) where
  x b i t := (x_at m c b i t).trans ((congrFun (hm.x c) _).trans (block_rows3 _ _ _ _ _))
  wq t d := (hq t d).trans ((wq_at m _ t d).trans ((congrFun (hm.wq _) _).trans (block_cols _ _ _ _)))
  wo j d := (ho j d).trans ((wo_at m _ j d).trans ((congrFun (hm.wo _) _).trans (block_rows _ _ _ _)))
  k b h l e := (k_at m c s b h l e).trans (congrFun (hm.k c) _)
  v b h l e := (v_at m c s b h l e).trans (congrFun (hm.v c) _)

theorem part0_eq (hA : A.Real) (b : Fin 2) (i : Fin 128) (j : Fin 512) :
    (part0 (valW m) c (valX m c) (valK m c) (valV m c) (ix2 ⟨128 * b.val + i.val, by omega⟩ j) : EReal)
      = ∑ d : Fin 256, A.term (batch c b) i j (col (source c 0) d) :=
  contribution_eq hA (blocks_of hm c 0 (fun t d => half_at _ _ t d) (fun t d => half_at _ _ t d)) b i j
theorem part_eq (hA : A.Real) (s : Fin 7) (b : Fin 2) (i : Fin 128) (j : Fin 512) :
    (part (valW m) c (valX m c) (valK m c) (valV m c) s (ix2 ⟨128 * b.val + i.val, by omega⟩ j) : EReal)
      = ∑ d : Fin 256, A.term (batch c b) i j (col (source c s.succ) d) :=
  contribution_eq hA (blocks_of hm c s.succ (fun t d => (slot_at _ _ _ t d).trans (gathered_at m c s 0 t d))
    (fun t d => (slot_at _ _ _ t d).trans (gathered_at m c s 1 t d))) b i j

omit hm in
theorem out_cast (R : FVec Ideal S256x512 .f32) (b : Fin 2) (i : Fin 128) (j : Fin 512) :
    shapeCast S2x128x512 R shapeCasts_S256x512_S2x128x512 (ix3 b i j) = R (ix2 ⟨128 * b.val + i.val, by omega⟩ j) := by
  pointwise
  simp only [mul_comm 128]

omit hm in
theorem add_at (x y : FVec Ideal S256x512 .f32) (i : S256x512.Idx) : (addf x y i : EReal) = x i + y i := rfl

theorem result_eq (hA : A.Real) (b : Fin 2) (i : Fin 128) (j : Fin 512) :
    (result m c (ix3 b i j) : EReal) = Ref.out A.v A.weights A.wo (ix3 (batch c b) i j) := by
  rw [Ref.out_apply]
  refine Eq.trans ?_ (sum_slabs c (A.term (batch c b) i j)).symm
  unfold result
  rw [outVal_eq]
  refine (out_cast _ b i j).trans ?_
  simp only [add_at, part0_eq hm c hA b i j, part_eq hm c hA _ b i j]
  rw [Fin.sum_univ_eight]
  rfl

/-- The device's output is its block of the reference's result. -/
theorem result_block (hA : A.Real) :
    result m c = Layout.block ⟨3, ![2, 128, 512]⟩ ⟨3, ![16, 128, 512]⟩ 0 8 c (Ref.out A.v A.weights A.wo) := by
  funext x
  idx_vars x
  exact (result_eq hm c hA x0 x1 x2).trans (block_rows3 _ _ _ _ _).symm

/-- The blocks being finite, the whole arrays are. -/
theorem real_of_blocks (hr : ∀ c : Dev nD, (∀ i, ∃ r : ℝ, m ((c.tc : Thread nD τ).loc main_arg0) i = (r : EReal))
    ∧ (∀ i, ∃ r : ℝ, m ((c.tc : Thread nD τ).loc main_arg1) i = (r : EReal))
    ∧ ∀ i, ∃ r : ℝ, m ((c.tc : Thread nD τ).loc main_arg2) i = (r : EReal)) : A.Real where
  x i := by
    idx_vars i
    have h := (hr ⟨i0.val / 2, by show _ < 8; omega⟩).1 (ix3 (⟨i0.val % 2, by omega⟩ : Fin 2) i1 i2)
    rw [hm.x, block_rows3] at h
    have hb : batch ⟨i0.val / 2, by omega⟩ ⟨i0.val % 2, by omega⟩ = i0 := Fin.ext (by dsimp only; omega)
    rwa [hb] at h
  wq i := by
    idx_vars i
    have h := (hr ⟨i1.val / 256, by show _ < 8; omega⟩).2.1 (ix2 i0 (⟨i1.val % 256, by omega⟩ : Fin 256))
    rw [hm.wq, block_cols] at h
    have hb : col ⟨i1.val / 256, by omega⟩ ⟨i1.val % 256, by omega⟩ = i1 := Fin.ext (by dsimp only; omega)
    rwa [hb] at h
  k i := by
    have h := (hr 0).2.2 i
    rwa [hm.k] at h

end Cert.Proof.Equation
end
end
-- ==== Proof.lean ====
/- The claims of the certificate, put together from the modules under Proof/. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Launch
public import proofs.«01_k».proof.Proof.Same
public import proofs.«01_k».proof.Proof.Finite
public import proofs.«01_k».proof.Proof.Equation
public import Idealize.ShloMosaic.Adequacy
public import Idealize.ShloMosaic.Init

@[expose] public section

noncomputable section

namespace Cert.Proof

open Idealize.ShloMosaic Idealize.SL.Sem

/-- The ideal program ends, its arguments unchanged and its counters at zero: the run, with the result's value dropped. -/
theorem frame_ideal : Cert.quiescent_KernelIdeal := fun m ρ _ =>
  (θ_run Cert.KernelIdeal.defs _ _).mono (fun _ h => ⟨fun c => (h.1 c).1, h.2⟩) (Talk.run_main (F := Ideal) m ρ)
/-- The kernel as printed is the same text, so the same run read at machine floats. -/
theorem frame_kernel : Cert.quiescent_Kernel := by
  intro m ρ _
  rw [defs_same, main_same]
  exact (θ_run Cert.KernelIdeal.defs _ _).mono (fun _ h => ⟨fun c => (h.1 c).1, h.2⟩) (Talk.run_main (F := Bits) m ρ)
/-- The reference is straight-line host code and declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From finite scores' arguments, the kernel's output on every device is its block of the reference's result. -/
theorem algebraic : Cert.algebraic_KernelIdeal_ReferenceIdeal_pre_finite_scores_KernelIdeal
    (hPre_finite_scores_KernelIdeal := Finite.facts_kernel) := by
  intro m ρ m' ρ' hpre hin
  let A : Heads.Arrays := ⟨m' (((0 : Dev Cert.ReferenceIdeal.nD).tc : Thread Cert.ReferenceIdeal.nD Cert.ReferenceIdeal.τ).loc Cert.ReferenceIdeal.main_arg0),
    m' (((0 : Dev Cert.ReferenceIdeal.nD).tc : Thread Cert.ReferenceIdeal.nD Cert.ReferenceIdeal.τ).loc Cert.ReferenceIdeal.main_arg1),
    m' (((0 : Dev Cert.ReferenceIdeal.nD).tc : Thread Cert.ReferenceIdeal.nD Cert.ReferenceIdeal.τ).loc Cert.ReferenceIdeal.main_arg2),
    m' (((0 : Dev Cert.ReferenceIdeal.nD).tc : Thread Cert.ReferenceIdeal.nD Cert.ReferenceIdeal.τ).loc Cert.ReferenceIdeal.main_arg3),
    m' (((0 : Dev Cert.ReferenceIdeal.nD).tc : Thread Cert.ReferenceIdeal.nD Cert.ReferenceIdeal.τ).loc Cert.ReferenceIdeal.main_arg4)⟩
  have hm : Equation.Holds m A := ⟨fun c => (hin c).1, fun c => (hin c).2.1, fun c => (hin c).2.2.1, fun c => (hin c).2.2.2.1, fun c => (hin c).2.2.2.2⟩
  have hA : A.Real := Equation.real_of_blocks hm fun c =>
    Finite.real_of_all (hPre := Finite.facts_kernel) (hpre c)
  refine ⟨Cert.ReferenceIdeal.Value.res_main_v34 m' 0, ?_, ?_⟩
  · refine (θ_run Cert.KernelIdeal.defs _ _).mono (fun r h c => ⟨?_, (h.1 c).1⟩) (Talk.run_main (F := Ideal) m ρ)
    rw [Ref.res_value]
    exact (h.1 c).2.1.trans ((Windows.final_eq m c).trans (Equation.result_block hm c hA))
  · exact (θ_run Cert.ReferenceIdeal.defs _ _).mono (fun r h => h 0) (Cert.ReferenceIdeal.Value.run (F := Ideal) m' ρ')

theorem claim : Cert.Claim := ⟨Cert.Kernel.Gen.facts, Cert.KernelIdeal.Gen.facts, Cert.ReferenceIdeal.Gen.facts,
  Finite.facts_kernel, Finite.facts_reference, frame_kernel, frame_ideal, fun m ρ _ => frame_ideal m ρ trivial,
  frame_reference, fun m ρ _ => frame_reference m ρ trivial, trivial, algebraic⟩

end Cert.Proof

end
